-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128x256 : Shape := ⟨3, ![1024, 128, 256]⟩
abbrev S128x512x256 : Shape := ⟨3, ![128, 512, 256]⟩
abbrev S128x512 : Shape := ⟨2, ![128, 512]⟩
abbrev S128x512x512 : Shape := ⟨3, ![128, 512, 512]⟩
abbrev S128x256x512 : Shape := ⟨3, ![128, 256, 512]⟩
abbrev S128x256 : Shape := ⟨2, ![128, 256]⟩
abbrev S1024x128x1x256 : Shape := ⟨4, ![1024, 128, 1, 256]⟩
abbrev S128x1x512 : Shape := ⟨3, ![128, 1, 512]⟩
abbrev S128x1x256 : Shape := ⟨3, ![128, 1, 256]⟩
abbrev S1024x4x1x256 : Shape := ⟨4, ![1024, 4, 1, 256]⟩
abbrev S4x4x512x256 : Shape := ⟨4, ![4, 4, 512, 256]⟩
abbrev S4x4x512x512 : Shape := ⟨4, ![4, 4, 512, 512]⟩
abbrev S4x4x256x512 : Shape := ⟨4, ![4, 4, 256, 512]⟩
abbrev S4x3 : Shape := ⟨2, ![4, 3]⟩
abbrev S1x1 : Shape := ⟨2, ![1, 1]⟩
abbrev S_ : Shape := ⟨0, ![]⟩
abbrev S1x4x512x256 : Shape := ⟨4, ![1, 4, 512, 256]⟩
abbrev S4x512x256 : Shape := ⟨3, ![4, 512, 256]⟩
abbrev S1x4x512x512 : Shape := ⟨4, ![1, 4, 512, 512]⟩
abbrev S4x512x512 : Shape := ⟨3, ![4, 512, 512]⟩
abbrev S1x4x256x512 : Shape := ⟨4, ![1, 4, 256, 512]⟩
abbrev S4x256x512 : Shape := ⟨3, ![4, 256, 512]⟩
abbrev S1024x1x1x256 : Shape := ⟨4, ![1024, 1, 1, 256]⟩
abbrev S1024x256 : Shape := ⟨2, ![1024, 256]⟩
abbrev S1x1x512x256 : Shape := ⟨4, ![1, 1, 512, 256]⟩
abbrev S512x256 : Shape := ⟨2, ![512, 256]⟩
abbrev S1024x512 : Shape := ⟨2, ![1024, 512]⟩
abbrev S1x1x512 : Shape := ⟨3, ![1, 1, 512]⟩
abbrev S1x512 : Shape := ⟨2, ![1, 512]⟩
abbrev S1x1x512x512 : Shape := ⟨4, ![1, 1, 512, 512]⟩
abbrev S512x512 : Shape := ⟨2, ![512, 512]⟩
abbrev S1x1x256x512 : Shape := ⟨4, ![1, 1, 256, 512]⟩
abbrev S256x512 : Shape := ⟨2, ![256, 512]⟩
abbrev S1x1x256 : Shape := ⟨3, ![1, 1, 256]⟩
abbrev S1x256 : Shape := ⟨2, ![1, 256]⟩

abbrev nBuf : Space → Nat
  | .hbm => 13
  | .vmem => 10
  | .smem => 0
  | _ => 0

abbrev bufTy : (tb : Table) → Fin (tcTables nBuf tb) → BufTy
  | .hbm, ⟨0, _⟩ => ⟨S1024x128x256, .f32⟩
  | .hbm, ⟨1, _⟩ => ⟨S128x512x256, .f32⟩
  | .hbm, ⟨2, _⟩ => ⟨S128x512, .f32⟩
  | .hbm, ⟨3, _⟩ => ⟨S128x512x512, .f32⟩
  | .hbm, ⟨4, _⟩ => ⟨S128x512, .f32⟩
  | .hbm, ⟨5, _⟩ => ⟨S128x256x512, .f32⟩
  | .hbm, ⟨6, _⟩ => ⟨S128x256, .f32⟩
  | .hbm, ⟨7, _⟩ => ⟨S1024x128x1x256, .f32⟩
  | .hbm, ⟨8, _⟩ => ⟨S128x1x512, .f32⟩
  | .hbm, ⟨9, _⟩ => ⟨S128x1x512, .f32⟩
  | .hbm, ⟨10, _⟩ => ⟨S128x1x256, .f32⟩
  | .hbm, ⟨11, _⟩ => ⟨S1024x128x1x256, .f32⟩
  | .hbm, ⟨12, _⟩ => ⟨S1024x128x256, .f32⟩
  | .local _ .vmem, ⟨0, _⟩ => ⟨S1024x4x1x256, .f32⟩
  | .local _ .vmem, ⟨1, _⟩ => ⟨S1024x4x1x256, .f32⟩
  | .local _ .vmem, ⟨2, _⟩ => ⟨S128x1x512, .f32⟩
  | .local _ .vmem, ⟨3, _⟩ => ⟨S128x1x512, .f32⟩
  | .local _ .vmem, ⟨4, _⟩ => ⟨S128x1x256, .f32⟩
  | .local _ .vmem, ⟨5, _⟩ => ⟨S1024x4x1x256, .f32⟩
  | .local _ .vmem, ⟨6, _⟩ => ⟨S1024x4x1x256, .f32⟩
  | .local _ .vmem, ⟨7, _⟩ => ⟨S4x4x512x256, .f32⟩
  | .local _ .vmem, ⟨8, _⟩ => ⟨S4x4x512x512, .f32⟩
  | .local _ .vmem, ⟨9, _⟩ => ⟨S4x4x256x512, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_6 : BitVec 32 := 0#32
  ![v13.toNat, 0]
def k0_off2 (i : grid0.Coords) : Fin 4 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_7 : BitVec 32 := 0#32
  let c0_i32_8 : BitVec 32 := 0#32
  let c0_i32_9 : BitVec 32 := 0#32
  ![v13.toNat, 0, 0, 0]
def k0_off3 (i : grid0.Coords) : Fin 2 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13 : BitVec 32 := 1#32
  ![v13.toNat, 1]
def k0_off4 (i : grid0.Coords) : Fin 4 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_14 : BitVec 32 := 0#32
  let c0_i32_15 : BitVec 32 := 0#32
  let c0_i32_16 : BitVec 32 := 0#32
  ![v13.toNat, 0, 0, 0]
def k0_off5 (i : grid0.Coords) : Fin 2 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2_i32 : BitVec 32 := 2#32
  ![v13.toNat, 2]
def k0_off6 (i : grid0.Coords) : Fin 4 → Nat :=
  let arg0 : BitVec 32 := BitVec.ofNat 32 (i 0).val
  let c4_i32_1 : BitVec 32 := 4#32
  let c0_i32_2 : BitVec 32 := 0#32
  let v4 : BitVec 1 := Scalar.cmpi .eq c4_i32_1 c0_i32_2
  let c1_i32 : BitVec 32 := 1#32
  let v5 : BitVec 32 := Scalar.select v4 c1_i32 c4_i32_1
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_20 : BitVec 32 := 0#32
  let c0_i32_21 : BitVec 32 := 0#32
  let c0_i32_22 : BitVec 32 := 0#32
  ![v13.toNat, 0, 0, 0]
def k0_off7 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v44 : Index := Scalar.indexCast v41
  let c0_35 : Index := 0#32
  let c0_36 : Index := 0#32
  let c0_37 : Index := 0#32
  ![v44.toNat, 0, 0, 0]
def k0_off8 (i : grid0.Coords) (c0_i32_38 : BitVec 32) : Fin 3 → Nat :=
  let arg0 : BitVec 32 := BitVec.ofNat 32 (i 0).val
  let c4_i32 : BitVec 32 := 4#32
  let v0 : BitVec 32 := Scalar.muli arg0 c4_i32
  let v48 : BitVec 32 := Scalar.addi v0 c0_i32_38
  let v49 : Index := Scalar.indexCast v48
  let c0_39 : Index := 0#32
  let c0_40 : Index := 0#32
  ![v49.toNat, 0, 0]
def k0_off9 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v56 : Index := Scalar.indexCast v41
  let c0_42 : Index := 0#32
  let c0_43 : Index := 0#32
  let c0_44 : Index := 0#32
  ![v56.toNat, 0, 0, 0]
def k0_off10 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v68 : Index := Scalar.indexCast v41
  let c0_50 : Index := 0#32
  let c0_51 : Index := 0#32
  let c0_52 : Index := 0#32
  ![v68.toNat, 0, 0, 0]
def k0_off11 (i : grid0.Coords) (c0_i32_54 : BitVec 32) : Fin 3 → Nat :=
  let arg0 : BitVec 32 := BitVec.ofNat 32 (i 0).val
  let c4_i32 : BitVec 32 := 4#32
  let v0 : BitVec 32 := Scalar.muli arg0 c4_i32
  let v72 : BitVec 32 := Scalar.addi v0 c0_i32_54
  let v73 : Index := Scalar.indexCast v72
  let c0_55 : Index := 0#32
  let c0_56 : Index := 0#32
  ![v73.toNat, 0, 0]
def k0_off12 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v83 : Index := Scalar.indexCast v41
  let c1_64 : Index := 1#32
  let c0_65 : Index := 0#32
  let c0_66 : Index := 0#32
  ![v83.toNat, 1, 0, 0]
def k0_off13 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v95 : Index := Scalar.indexCast v41
  let c1_72 : Index := 1#32
  let c0_73 : Index := 0#32
  let c0_74 : Index := 0#32
  ![v95.toNat, 1, 0, 0]
def k0_off14 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v107 : Index := Scalar.indexCast v41
  let c1_80 : Index := 1#32
  let c0_81 : Index := 0#32
  let c0_82 : Index := 0#32
  ![v107.toNat, 1, 0, 0]
def k0_off15 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v122 : Index := Scalar.indexCast v41
  let c2_94 : Index := 2#32
  let c0_95 : Index := 0#32
  let c0_96 : Index := 0#32
  ![v122.toNat, 2, 0, 0]
def k0_off16 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v134 : Index := Scalar.indexCast v41
  let c2_102 : Index := 2#32
  let c0_103 : Index := 0#32
  let c0_104 : Index := 0#32
  ![v134.toNat, 2, 0, 0]
def k0_off17 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v146 : Index := Scalar.indexCast v41
  let c2_110 : Index := 2#32
  let c0_111 : Index := 0#32
  let c0_112 : Index := 0#32
  ![v146.toNat, 2, 0, 0]
def k0_off18 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v161 : Index := Scalar.indexCast v41
  let c3_124 : Index := 3#32
  let c0_125 : Index := 0#32
  let c0_126 : Index := 0#32
  ![v161.toNat, 3, 0, 0]
def k0_off19 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v173 : Index := Scalar.indexCast v41
  let c3_131 : Index := 3#32
  let c0_132 : Index := 0#32
  let c0_133 : Index := 0#32
  ![v173.toNat, 3, 0, 0]
def k0_off20 (i : grid0.Coords) : Fin 4 → Nat :=
  let arg0 : BitVec 32 := BitVec.ofNat 32 (i 0).val
  let c4_i32_26 : BitVec 32 := 4#32
  let c0_i32_27 : BitVec 32 := 0#32
  let v32 : BitVec 1 := Scalar.cmpi .eq c4_i32_26 c0_i32_27
  let c1_i32_28 : BitVec 32 := 1#32
  let v33 : BitVec 32 := Scalar.select v32 c1_i32_28 c4_i32_26
  let v34 : BitVec 32 := Scalar.remsi arg0 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v185 : Index := Scalar.indexCast v41
  let c3_139 : Index := 3#32
  let c0_140 : Index := 0#32
  let c0_141 : Index := 0#32
  ![v185.toNat, 3, 0, 0]
def k0_cond2 (i : grid0.Coords) : BitVec 1 :=
  let arg0 : BitVec 32 := BitVec.ofNat 32 (i 0).val
  let c4_i32_150 : BitVec 32 := 4#32
  let v198 : BitVec 32 := Scalar.addi arg0 c4_i32_150
  let c32_i32 : BitVec 32 := 32#32
  let v199 : BitVec 1 := Scalar.cmpi .slt v198 c32_i32
  let v200 : BitVec 32 := Scalar.extui v199
  let c0_i32_151 : BitVec 32 := 0#32
  let v201 : BitVec 1 := Scalar.cmpi .ne v200 c0_i32_151
  v201

def k0_off21 (i : grid0.Coords) : Fin 2 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c0_i32_160 : BitVec 32 := 0#32
  ![v212.toNat, 0]
def k0_off22 (i : grid0.Coords) : Fin 4 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c0_i32_161 : BitVec 32 := 0#32
  let c0_i32_162 : BitVec 32 := 0#32
  let c0_i32_163 : BitVec 32 := 0#32
  ![v212.toNat, 0, 0, 0]
def k0_off23 (i : grid0.Coords) : Fin 3 → Nat :=
  let arg0 : BitVec 32 := BitVec.ofNat 32 (i 0).val
  let c4_i32_152 : BitVec 32 := 4#32
  let v202 : BitVec 32 := Scalar.addi arg0 c4_i32_152
  let c4_i32_159 : BitVec 32 := 4#32
  let v213 : BitVec 32 := Scalar.muli v202 c4_i32_159
  let c0_i32_164 : BitVec 32 := 0#32
  let c0_i32_165 : BitVec 32 := 0#32
  ![v213.toNat, 0, 0]
def k0_off24 (i : grid0.Coords) : Fin 2 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c1_i32_167 : BitVec 32 := 1#32
  ![v212.toNat, 1]
def k0_off25 (i : grid0.Coords) : Fin 4 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c0_i32_168 : BitVec 32 := 0#32
  let c0_i32_169 : BitVec 32 := 0#32
  let c0_i32_170 : BitVec 32 := 0#32
  ![v212.toNat, 0, 0, 0]
def k0_off26 (i : grid0.Coords) : Fin 3 → Nat :=
  let arg0 : BitVec 32 := BitVec.ofNat 32 (i 0).val
  let c4_i32_152 : BitVec 32 := 4#32
  let v202 : BitVec 32 := Scalar.addi arg0 c4_i32_152
  let c4_i32_166 : BitVec 32 := 4#32
  let v219 : BitVec 32 := Scalar.muli v202 c4_i32_166
  let c0_i32_171 : BitVec 32 := 0#32
  let c0_i32_172 : BitVec 32 := 0#32
  ![v219.toNat, 0, 0]
def k0_off27 (i : grid0.Coords) : Fin 2 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c2_i32_174 : BitVec 32 := 2#32
  ![v212.toNat, 2]
def k0_off28 (i : grid0.Coords) : Fin 4 → Nat :=
  let arg0 : BitVec 32 := BitVec.ofNat 32 (i 0).val
  let c4_i32_152 : BitVec 32 := 4#32
  let v202 : BitVec 32 := Scalar.addi arg0 c4_i32_152
  let c4_i32_153 : BitVec 32 := 4#32
  let c0_i32_154 : BitVec 32 := 0#32
  let v203 : BitVec 1 := Scalar.cmpi .eq c4_i32_153 c0_i32_154
  let c1_i32_155 : BitVec 32 := 1#32
  let v204 : BitVec 32 := Scalar.select v203 c1_i32_155 c4_i32_153
  let v205 : BitVec 32 := Scalar.remsi v202 v204
  let c0_i32_157 : BitVec 32 := 0#32
  let v207 : BitVec 1 := Scalar.cmpi .slt v205 c0_i32_157
  let c0_i32_158 : BitVec 32 := 0#32
  let v208 : BitVec 1 := Scalar.cmpi .slt v204 c0_i32_158
  let v209 : BitVec 1 := Scalar.xori v207 v208
  let c0_i32_156 : BitVec 32 := 0#32
  let v206 : BitVec 1 := Scalar.cmpi .ne v205 c0_i32_156
  let v210 : BitVec 1 := Scalar.andi v209 v206
  let v211 : BitVec 32 := Scalar.addi v205 v204
  let v212 : BitVec 32 := Scalar.select v210 v211 v205
  let c0_i32_175 : BitVec 32 := 0#32
  let c0_i32_176 : BitVec 32 := 0#32
  let c0_i32_177 : BitVec 32 := 0#32
  ![v212.toNat, 0, 0, 0]
def k0_off29 (i : grid0.Coords) : Fin 3 → Nat :=
  let arg0 : BitVec 32 := BitVec.ofNat 32 (i 0).val
  let c4_i32_152 : BitVec 32 := 4#32
  let v202 : BitVec 32 := Scalar.addi arg0 c4_i32_152
  let c4_i32_173 : BitVec 32 := 4#32
  let v225 : BitVec 32 := Scalar.muli v202 c4_i32_173
  let c0_i32_178 : BitVec 32 := 0#32
  let c0_i32_179 : BitVec 32 := 0#32
  ![v225.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x4x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x128x256 : Shape := ⟨3, ![1024, 128, 256]⟩
abbrev S128x512x256 : Shape := ⟨3, ![128, 512, 256]⟩
abbrev S128x512 : Shape := ⟨2, ![128, 512]⟩
abbrev S128x512x512 : Shape := ⟨3, ![128, 512, 512]⟩
abbrev S128x256x512 : Shape := ⟨3, ![128, 256, 512]⟩
abbrev S128x256 : Shape := ⟨2, ![128, 256]⟩
abbrev S128x512x1024 : Shape := ⟨3, ![128, 512, 1024]⟩
abbrev S1024x128x512 : Shape := ⟨3, ![1024, 128, 512]⟩
abbrev S1x128x512 : Shape := ⟨3, ![1, 128, 512]⟩
abbrev S_ : Shape := ⟨0, ![]⟩
abbrev S128x256x1024 : Shape := ⟨3, ![128, 256, 1024]⟩
abbrev S1x128x256 : Shape := ⟨3, ![1, 128, 256]⟩

abbrev nBuf : Space → Nat
  | .hbm => 28
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S128x512x256, .f32⟩
  | .hbm, ⟨2, _⟩ => ⟨S128x512, .f32⟩
  | .hbm, ⟨3, _⟩ => ⟨S128x512x512, .f32⟩
  | .hbm, ⟨4, _⟩ => ⟨S128x512, .f32⟩
  | .hbm, ⟨5, _⟩ => ⟨S128x256x512, .f32⟩
  | .hbm, ⟨6, _⟩ => ⟨S128x256, .f32⟩
  | .hbm, ⟨7, _⟩ => ⟨S128x512x1024, .f32⟩
  | .hbm, ⟨8, _⟩ => ⟨S1024x128x512, .f32⟩
  | .hbm, ⟨9, _⟩ => ⟨S1x128x512, .f32⟩
  | .hbm, ⟨10, _⟩ => ⟨S1024x128x512, .f32⟩
  | .hbm, ⟨11, _⟩ => ⟨S1024x128x512, .f32⟩
  | .hbm, ⟨12, _⟩ => ⟨S_, .f32⟩
  | .hbm, ⟨13, _⟩ => ⟨S1024x128x512, .f32⟩
  | .hbm, ⟨14, _⟩ => ⟨S1024x128x512, .f32⟩
  | .hbm, ⟨15, _⟩ => ⟨S128x512x1024, .f32⟩
  | .hbm, ⟨16, _⟩ => ⟨S1024x128x512, .f32⟩
  | .hbm, ⟨17, _⟩ => ⟨S1x128x512, .f32⟩
  | .hbm, ⟨18, _⟩ => ⟨S1024x128x512, .f32⟩
  | .hbm, ⟨19, _⟩ => ⟨S1024x128x512, .f32⟩
  | .hbm, ⟨20, _⟩ => ⟨S_, .f32⟩
  | .hbm, ⟨21, _⟩ => ⟨S1024x128x512, .f32⟩
  | .hbm, ⟨22, _⟩ => ⟨S1024x128x512, .f32⟩
  | .hbm, ⟨23, _⟩ => ⟨S128x256x1024, .f32⟩
  | .hbm, ⟨24, _⟩ => ⟨S1024x128x256, .f32⟩
  | .hbm, ⟨25, _⟩ => ⟨S1x128x256, .f32⟩
  | .hbm, ⟨26, _⟩ => ⟨S1024x128x256, .f32⟩
  | .hbm, ⟨27, _⟩ => ⟨S1024x128x256, .f32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Same.lean ====
module

public import proofs.«01_k».proof.Proof.Gen.Kernel
public import proofs.«01_k».proof.Proof.Gen.KernelIdeal

/-!
# The kernel and its idealization are one program

No operation is rewritten between the two, so the main program and the body table are the same at every float instance.
What is proved of the idealized program at every instance is then proved of the kernel.
-/

@[expose] public section

set_option maxHeartbeats 4000000
set_option maxRecDepth 65536

noncomputable section

namespace Cert.Same

open Idealize.ShloMosaic Idealize.SL.Sem

variable {F : FTy → Type} [FloatOps F]

/-- The main programs agree. -/
theorem main_eq : Cert.Kernel.main (F := F) = Cert.KernelIdeal.main (F := F) := rfl

/-- The bodies agree. -/
theorem body_eq : Cert.Kernel.cc0__mlp_kernel (F := F) = Cert.KernelIdeal.cc0__mlp_kernel (F := F) := rfl

/-- The tables of bodies without their pipelines agree. -/
theorem defs₀_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun _ => rfl

/-- The tables of bodies agree. -/
theorem defs_eq : Cert.Kernel.defs (F := F) = Cert.KernelIdeal.defs (F := F) := by
  unfold Cert.Kernel.defs Cert.KernelIdeal.defs
  exact congrArg (Idealize.ShloMosaic.Pipeline.defs (Cert.KernelIdeal.pcfgs (F := F))) defs₀_eq

end Cert.Same

end
-- ==== Proof.Slots.lean ====
module

public import Idealize.ShloMosaic.Lib.Ring
public import Idealize.ShloMosaic.Lib.Ring.AtN
public import Idealize.ShloMosaic.Lib.Tactic

/-!
# Four slots, filled four blocks ahead

The kernel keeps four scratch slots for each weight array. Its first step starts the copies of blocks 0, 1, 2 and 3;
step `k` waits for block `k`, reads it, and starts block `k + 4` into the slot it has just read. So before step `k ≥ 1`
every one of the four slots holds a copy in progress (until the blocks run out), and a block that is being read and
the block started over it live in the same slot. This file states that picture for any pieces `going k` (block `k` on
its way) and `free s` (slot `s` at rest), and how the read permission of the array is dealt out.
-/

@[expose] public section

noncomputable section

namespace Mlp

open Idealize.ShloMosaic
open Idealize.SL Idealize.SL.RA Idealize.SL.BI
open scoped Idealize.SL.BI
open Idealize.SL.BI.BIBase Idealize.SL.BI.Laws Idealize.SL.ProofMode Idealize.SL.Sem

section State

variable {M : Type _} [URA M] (going : ℕ → sProp M) (free : Fin 4 → sProp M)

/-- What block number `k` contributes: the block on its way, or, past the last block, its slot at rest. -/
def role (k : ℕ) : sProp M := if k < 32 then going k else free (Ring.sl 4 k)

/-- The three blocks after `k`: the ones step `k` does not touch. -/
def later (k : ℕ) : sProp M := iprop(role going free (k + 1) ∗ role going free (k + 2) ∗ role going free (k + 3))

/-- The four slots at rest. -/
def idle : sProp M := iprop(free 0 ∗ free 1 ∗ free 2 ∗ free 3)

/-- The four slots before step `k`: at rest before the first step, else blocks `k` to `k + 3` on their way. -/
def slotsAt (k : ℕ) : sProp M := if k = 0 then idle free else iprop(role going free k ∗ later going free k)

/-- A block there is a step for is on its way. -/
theorem role_going {k : ℕ} (h : k < 32) : role going free k = going k := if_pos h

/-- Past the last block the slot is at rest. -/
theorem role_free {k : ℕ} (h : 32 ≤ k) : role going free k = free (Ring.sl 4 k) := if_neg (by omega)

/-- Before the first step the slots are at rest. -/
theorem slotsAt_zero : slotsAt going free 0 = idle free := if_pos rfl

/-- Before a later step the block of the step is on its way, apart from the other three. -/
theorem slotsAt_here {k : ℕ} (h1 : 1 ≤ k) (h : k < 32) : slotsAt going free k = iprop(going k ∗ later going free k) := by
  unfold slotsAt; rw [if_neg (by omega), role_going _ _ h]

/-- The first step leaves blocks 1 to 4 on their way. -/
theorem slotsAt_one {k : ℕ} (h : k = 0) :
    slotsAt going free (k + 1) = iprop(going (k + 1) ∗ going (k + 2) ∗ going (k + 3) ∗ going (k + 4)) := by
  subst h; rfl

/-- A later step leaves the other three as they were, and its own slot with the block four further on. -/
theorem slotsAt_next (k : ℕ) : iprop(role going free (k + 4) ∗ later going free k) ⊢ slotsAt going free (k + 1) := by
  unfold slotsAt later; rw [if_neg (by omega)]
  iintro ⟨H4, H1, H2, H3⟩
  isplitl [H1]; · iexact H1
  isplitl [H2]; · iexact H2
  isplitl [H3]; · iexact H3
  iexact H4

/-- After the last step the slots are at rest. -/
theorem slotsAt_last : slotsAt going free 32 = idle free := rfl

end State

/-! ## The read permission of an array, in eighths

A copy in progress borrows the elements it reads. Two copies are in hand for a slot when a step starts the block four
further on (the one just waited for and the new one), so the permission to read is cut in four quarters, one for each
slot, and each quarter in two halves, used in turn. -/

/-- The quarter of the permission that belongs to a slot. -/
def quarter (s : Fin 4) : PosShare TreeShare :=
  if s.val = 0 then fullShare.left.left else if s.val = 1 then fullShare.left.right
  else if s.val = 2 then fullShare.right.left else fullShare.right.right

/-- The eighth that the copy of block `k` borrows from. -/
def eighth (k : ℕ) : PosShare TreeShare :=
  if k / 4 % 2 = 0 then (quarter (Ring.sl 4 k)).left else (quarter (Ring.sl 4 k)).right

/-- Four blocks further on comes the same slot. -/
theorem slot_add_four (k : ℕ) : Ring.sl 4 (k + 4) = Ring.sl 4 k := Ring.sl_add 4 k

/-- Two turns later the same eighth comes round. -/
theorem eighth_add_eight (k : ℕ) : eighth (k + 4 + 4) = eighth k := by
  unfold eighth
  rw [slot_add_four, slot_add_four, show (k + 4 + 4) / 4 % 2 = k / 4 % 2 by omega]

section Shares

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Array contents at a share that is not read from at present (kept folded, out of the way of a run). -/
def atRest (ℓ : Loc nD τ sig) (q : PosShare TreeShare) (W : Buf Val ℓ) : sProp 𝕄 := ℓ ↦{q} W

/-- The elements of an array outside `J`, at a share whose elements in `J` are lent to a copy. -/
def notLent (ℓ : Loc nD τ sig) (J : Finset (Idx ℓ)) (q : PosShare TreeShare) (W : Buf Val ℓ) : sProp 𝕄 :=
  ℓ ↦[Finset.univ \ J]{q} W

variable {ℓ : Loc nD τ sig} (W : Buf Val ℓ)

/-- A share of the array is the elements lent and the elements kept. -/
theorem atRest_lend (J : Finset (Idx ℓ)) (q : PosShare TreeShare) :
    (atRest ℓ q W : sProp 𝕄) ⊣⊢ iprop((ℓ ↦[J]{q} W) ∗ notLent ℓ J q W) := by
  unfold atRest notLent; exact pointsTo_split_subset (Finset.subset_univ _)

/-- A share of the array is its two halves. -/
theorem atRest_halves (q : PosShare TreeShare) :
    (atRest ℓ q W : sProp 𝕄) ⊣⊢ iprop(atRest ℓ q.left W ∗ atRest ℓ q.right W) := by
  unfold atRest; exact pointsTo_share (PosShare.mem_left_op_right q)

/-- A slot's quarter is the eighths of any two blocks that follow each other in it. -/
theorem quarter_eighths (k : ℕ) :
    (atRest ℓ (quarter (Ring.sl 4 k)) W : sProp 𝕄) ⊣⊢ iprop(atRest ℓ (eighth k) W ∗ atRest ℓ (eighth (k + 4)) W) := by
  unfold eighth
  rw [slot_add_four]
  by_cases h : k / 4 % 2 = 0
  · rw [if_pos h, if_neg (show ¬(k + 4) / 4 % 2 = 0 by omega)]
    exact atRest_halves W _
  · rw [if_neg h, if_pos (show (k + 4) / 4 % 2 = 0 by omega)]
    refine ⟨?_, ?_⟩
    · iintro H
      ihave G := (atRest_halves W _).1 $$ H
      icases G with ⟨H0, H1⟩
      isplitl [H1]; · iexact H1
      iexact H0
    · iintro ⟨H1, H0⟩
      iapply (atRest_halves W _).2
      isplitl [H0]; · iexact H0
      iexact H1

/-- A slot's quarter, cut for the copy of block `k`: the elements the copy borrows, the rest of the eighth it borrows
    from, and the other eighth. -/
theorem quarter_cut (J : Finset (Idx ℓ)) (k : ℕ) :
    (atRest ℓ (quarter (Ring.sl 4 k)) W : sProp 𝕄)
      ⊣⊢ iprop((ℓ ↦[J]{eighth k} W) ∗ notLent ℓ J (eighth k) W ∗ atRest ℓ (eighth (k + 4)) W) := by
  refine ⟨?_, ?_⟩
  · iintro H
    ihave G := (quarter_eighths W k).1 $$ H
    icases G with ⟨H0, H1⟩
    ihave G0 := (atRest_lend W J (eighth k)).1 $$ H0
    icases G0 with ⟨HJ, HN⟩
    isplitl [HJ]; · iexact HJ
    isplitl [HN]; · iexact HN
    iexact H1
  · iintro ⟨HJ, HN, H1⟩
    iapply (quarter_eighths W k).2
    isplitl [HJ HN]
    · iapply (atRest_lend W J (eighth k)).2
      isplitl [HJ]; · iexact HJ
      iexact HN
    iexact H1

/-- The whole array is the four slots' quarters. -/
theorem whole_quarters :
    (ℓ ↦{fullShare} W : sProp 𝕄)
      ⊣⊢ iprop(atRest ℓ (quarter 0) W ∗ atRest ℓ (quarter 1) W ∗ atRest ℓ (quarter 2) W ∗ atRest ℓ (quarter 3) W) := by
  refine ⟨?_, ?_⟩
  · iintro H
    ihave G := (atRest_halves W fullShare).1 $$ [H]
    · unfold atRest; iexact H
    icases G with ⟨HL, HR⟩
    ihave GL := (atRest_halves W fullShare.left).1 $$ HL
    ihave GR := (atRest_halves W fullShare.right).1 $$ HR
    icases GL with ⟨H0, H1⟩
    icases GR with ⟨H2, H3⟩
    isplitl [H0]; · iexact H0
    isplitl [H1]; · iexact H1
    isplitl [H2]; · iexact H2
    iexact H3
  · iintro ⟨H0, H1, H2, H3⟩
    ihave G := (atRest_halves W fullShare).2 $$ [H0 H1 H2 H3]
    · isplitl [H0 H1]
      · iapply (atRest_halves W fullShare.left).2
        isplitl [H0]; · iexact H0
        iexact H1
      · iapply (atRest_halves W fullShare.right).2
        isplitl [H2]; · iexact H2
        iexact H3
    unfold atRest; iexact G

end Shares

end Mlp

end
-- ==== Proof.Streams.lean ====
module

public import proofs.«01_k».proof.Proof.Slots
public import proofs.«01_k».proof.Proof.Gen.KernelIdeal.Frame
public import proofs.«01_k».proof.Proof.Gen.KernelIdeal.Skeleton

/-!
# The three weight arrays and their slots

The names the proofs use for the parts of the three weight arrays that the kernel copies by hand: slot `s` of each
scratch buffer, block `b` (four variables) of each array, and the semaphore of each slot; what a copy in progress is;
and that the kernel's own offsets at grid point `t` are these names.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The branches of the body -/

/-- The body starts the first copies. -/
abbrev atStart (i : grid0.Coords) : Prop :=
  (Scalar.cmpi .ne (Scalar.extui (Scalar.cmpi .eq (BitVec.ofNat 32 (i 0).val) 0#32)) 0#32) = 1#1
/-- The body starts the copy of the block four further on. -/
abbrev goesOn (i : grid0.Coords) : Prop := k0_cond2 i = 1#1

theorem atStart_iff : ∀ t : Fin cfg0.N, atStart (grid0.coords t) ↔ t.val = 0 :=
  (by decide +kernel : ∀ t : Fin grid0.N, atStart (grid0.coords t) ↔ t.val = 0)
theorem goesOn_iff : ∀ t : Fin cfg0.N, goesOn (grid0.coords t) ↔ t.val < 28 :=
  (by decide +kernel : ∀ t : Fin grid0.N, goesOn (grid0.coords t) ↔ t.val < 28)

/-! ## Scratch buffers, arrays and their parts -/

/-- Contents of the buffer behind a memory reference, on core `c`. -/
abbrev Contents (c : Dev nD) {sp : Space} {S : Shape} {e : EltTy} (M : Memref sig .tc sp S e) : Type :=
  Buf (Elt F) (M.view.loc (c : Thread nD τ))

/-- The elements of a memory reference, held at contents `f`. -/
abbrev held (c : Dev nD) {sp : Space} {S : Shape} {e : EltTy} (M : Memref sig .tc sp S e) (q : PosShare TreeShare)
    (f : Contents (F := F) c M) : sProp 𝕄 := M.view.loc (c : Thread nD τ) ↦[M.view.set]{q} f

/-- The contents of `dst` once the contents `W` of `src` were copied over it. -/
abbrev copied (c : Dev nD) {S : Shape} {e : EltTy} (src : Memref sig .tc .hbm S e) (dst : Memref sig .tc .vmem S e)
    (W : Contents (F := F) c src) (f : Contents (F := F) c dst) : Contents (F := F) c dst :=
  dst.view.writes (Elt F) f [⟨Rect.whole S, ReadAs.same.apply (src.view.read (Elt F) W)⟩]

/-- A copy of `src` into `dst` in progress, announced on semaphore `r`: when it is waited for, `dst` holds what `src`
    holds, and the share `q` of `src` comes back. -/
abbrev copying (c : Dev nD) {S : Shape} {e : EltTy} (src : Memref sig .tc .hbm S e) (dst : Memref sig .tc .vmem S e)
    (r : SemLoc sig) (q : PosShare TreeShare) (W : Contents (F := F) c src) (f : Contents (F := F) c dst) : sProp 𝕄 :=
  Transfers.Flight countersEmb (c : Thread nD τ) r default (dst.view.amount r)
    iprop(held c dst fullShare (copied c src dst W f) ∗ held c src q W)

abbrev scr0 : Memref sig .tc .vmem S4x4x512x256 .f32 := Memref.whole cc0_scratch0
abbrev scr1 : Memref sig .tc .vmem S4x4x512x512 .f32 := Memref.whole cc0_scratch1
abbrev scr2 : Memref sig .tc .vmem S4x4x256x512 .f32 := Memref.whole cc0_scratch2
abbrev arr0 : Memref sig .tc .hbm S128x512x256 .f32 := Memref.whole main_arg1
abbrev arr1 : Memref sig .tc .hbm S128x512x512 .f32 := Memref.whole main_arg3
abbrev arr2 : Memref sig .tc .hbm S128x256x512 .f32 := Memref.whole main_arg5

/-- Each slot, block and semaphore lies within its buffer. -/
theorem slot0_inb (s : Fin 4) : ∀ a, (![s.val, 0, 0, 0] : Fin 4 → Nat) a + S1x4x512x256.size a ≤ S4x4x512x256.size a := by
  have := s.isLt; intro a; fin_cases a <;> simp <;> omega
theorem slot1_inb (s : Fin 4) : ∀ a, (![s.val, 0, 0, 0] : Fin 4 → Nat) a + S1x4x512x512.size a ≤ S4x4x512x512.size a := by
  have := s.isLt; intro a; fin_cases a <;> simp <;> omega
theorem slot2_inb (s : Fin 4) : ∀ a, (![s.val, 0, 0, 0] : Fin 4 → Nat) a + S1x4x256x512.size a ≤ S4x4x256x512.size a := by
  have := s.isLt; intro a; fin_cases a <;> simp <;> omega
theorem blk0_inb (b : Fin 32) : ∀ a, (![4 * b.val, 0, 0] : Fin 3 → Nat) a + S4x512x256.size a ≤ S128x512x256.size a := by
  have := b.isLt; intro a; fin_cases a <;> simp <;> omega
theorem blk1_inb (b : Fin 32) : ∀ a, (![4 * b.val, 0, 0] : Fin 3 → Nat) a + S4x512x512.size a ≤ S128x512x512.size a := by
  have := b.isLt; intro a; fin_cases a <;> simp <;> omega
theorem blk2_inb (b : Fin 32) : ∀ a, (![4 * b.val, 0, 0] : Fin 3 → Nat) a + S4x256x512.size a ≤ S128x256x512.size a := by
  have := b.isLt; intro a; fin_cases a <;> simp <;> omega
theorem bell_inb (s : Fin 4) (j : Fin 3) : ∀ a, (![s.val, j.val] : Fin 2 → Nat) a + S1x1.size a ≤ S4x3.size a := by
  have := s.isLt; have := j.isLt; intro a; fin_cases a <;> simp <;> omega

/-- Slot `s` of each scratch buffer. -/
def slot0 (s : Fin 4) : Memref sig .tc .vmem S4x512x256 .f32 :=
  (scr0.slice (Rect.unit (s := S4x4x512x256) ![s.val, 0, 0, 0] S1x4x512x256.size (slot0_inb s)) (fun _ => rfl)).squeeze S4x512x256 squeezes_S1x4x512x256_S4x512x256
def slot1 (s : Fin 4) : Memref sig .tc .vmem S4x512x512 .f32 :=
  (scr1.slice (Rect.unit (s := S4x4x512x512) ![s.val, 0, 0, 0] S1x4x512x512.size (slot1_inb s)) (fun _ => rfl)).squeeze S4x512x512 squeezes_S1x4x512x512_S4x512x512
def slot2 (s : Fin 4) : Memref sig .tc .vmem S4x256x512 .f32 :=
  (scr2.slice (Rect.unit (s := S4x4x256x512) ![s.val, 0, 0, 0] S1x4x256x512.size (slot2_inb s)) (fun _ => rfl)).squeeze S4x256x512 squeezes_S1x4x256x512_S4x256x512

/-- Block `b` of each array: the weights of variables `4 b` to `4 b + 3`. -/
def blk0 (b : Fin 32) : Memref sig .tc .hbm S4x512x256 .f32 :=
  arr0.slice (Rect.unit (s := S128x512x256) ![4 * b.val, 0, 0] S4x512x256.size (blk0_inb b)) (fun _ => rfl)
def blk1 (b : Fin 32) : Memref sig .tc .hbm S4x512x512 .f32 :=
  arr1.slice (Rect.unit (s := S128x512x512) ![4 * b.val, 0, 0] S4x512x512.size (blk1_inb b)) (fun _ => rfl)
def blk2 (b : Fin 32) : Memref sig .tc .hbm S4x256x512 .f32 :=
  arr2.slice (Rect.unit (s := S128x256x512) ![4 * b.val, 0, 0] S4x256x512.size (blk2_inb b)) (fun _ => rfl)

/-- The semaphore of slot `s` of array `j`, as a one-element array and as a place. -/
def bell (s : Fin 4) (j : Fin 3) : DmaSems sig S_ :=
  (cc0_scratch3.slice (Rect.unit (s := S4x3) ![s.val, j.val] S1x1.size (bell_inb s j))).squeeze S_ squeezes_S1x1_S_
abbrev bellAt (s : Fin 4) (j : Fin 3) : SemLoc sig := SemLoc.dma (bell s j).sem

/-! ## The kernel's offsets are these names -/

/-- An offset that equals a slot's, block's or semaphore's own offset names it. -/
theorem slot0_of {s : Fin 4} {o : Fin 4 → Nat} (h : o = ![s.val, 0, 0, 0]) (i : ∀ a, o a + S1x4x512x256.size a ≤ S4x4x512x256.size a) :
    (scr0.slice (Rect.unit (s := S4x4x512x256) o S1x4x512x256.size i) (fun _ => rfl)).squeeze S4x512x256 squeezes_S1x4x512x256_S4x512x256 = slot0 s := by
  subst h; rfl
theorem slot1_of {s : Fin 4} {o : Fin 4 → Nat} (h : o = ![s.val, 0, 0, 0]) (i : ∀ a, o a + S1x4x512x512.size a ≤ S4x4x512x512.size a) :
    (scr1.slice (Rect.unit (s := S4x4x512x512) o S1x4x512x512.size i) (fun _ => rfl)).squeeze S4x512x512 squeezes_S1x4x512x512_S4x512x512 = slot1 s := by
  subst h; rfl
theorem slot2_of {s : Fin 4} {o : Fin 4 → Nat} (h : o = ![s.val, 0, 0, 0]) (i : ∀ a, o a + S1x4x256x512.size a ≤ S4x4x256x512.size a) :
    (scr2.slice (Rect.unit (s := S4x4x256x512) o S1x4x256x512.size i) (fun _ => rfl)).squeeze S4x256x512 squeezes_S1x4x256x512_S4x256x512 = slot2 s := by
  subst h; rfl
theorem blk0_of {b : Fin 32} {o : Fin 3 → Nat} (h : o = ![4 * b.val, 0, 0]) (i : ∀ a, o a + S4x512x256.size a ≤ S128x512x256.size a) :
    arr0.slice (Rect.unit (s := S128x512x256) o S4x512x256.size i) (fun _ => rfl) = blk0 b := by
  subst h; rfl
theorem blk1_of {b : Fin 32} {o : Fin 3 → Nat} (h : o = ![4 * b.val, 0, 0]) (i : ∀ a, o a + S4x512x512.size a ≤ S128x512x512.size a) :
    arr1.slice (Rect.unit (s := S128x512x512) o S4x512x512.size i) (fun _ => rfl) = blk1 b := by
  subst h; rfl
theorem blk2_of {b : Fin 32} {o : Fin 3 → Nat} (h : o = ![4 * b.val, 0, 0]) (i : ∀ a, o a + S4x256x512.size a ≤ S128x256x512.size a) :
    arr2.slice (Rect.unit (s := S128x256x512) o S4x256x512.size i) (fun _ => rfl) = blk2 b := by
  subst h; rfl
theorem bell_of {s : Fin 4} {j : Fin 3} {o : Fin 2 → Nat} (h : o = ![s.val, j.val]) (i : ∀ a, o a + S1x1.size a ≤ S4x3.size a) :
    (cc0_scratch3.slice (Rect.unit (s := S4x3) o S1x1.size i)).squeeze S_ squeezes_S1x1_S_ = bell s j := by
  subst h; rfl

section Offsets

set_option synthInstance.maxSize 4096

instance : NeZero grid0.N := ⟨by rw [N_0]; decide⟩

/-- The slot, block and semaphore offsets at grid point `t`. -/
theorem wait_slots : ∀ t : Fin grid0.N, k0_off2 (grid0.coords t) = ![(Ring.sl 4 t.val).val, 0, 0, 0]
    ∧ k0_off4 (grid0.coords t) = ![(Ring.sl 4 t.val).val, 0, 0, 0] ∧ k0_off6 (grid0.coords t) = ![(Ring.sl 4 t.val).val, 0, 0, 0] := by decide +kernel
theorem wait_bells : ∀ t : Fin grid0.N, k0_off1 (grid0.coords t) = ![(Ring.sl 4 t.val).val, 0]
    ∧ k0_off3 (grid0.coords t) = ![(Ring.sl 4 t.val).val, 1] ∧ k0_off5 (grid0.coords t) = ![(Ring.sl 4 t.val).val, 2] := by decide +kernel
theorem next_slots : ∀ t : Fin grid0.N, k0_off22 (grid0.coords t) = ![(Ring.sl 4 t.val).val, 0, 0, 0]
    ∧ k0_off25 (grid0.coords t) = ![(Ring.sl 4 t.val).val, 0, 0, 0] ∧ k0_off28 (grid0.coords t) = ![(Ring.sl 4 t.val).val, 0, 0, 0] := by decide +kernel
theorem next_bells : ∀ t : Fin grid0.N, k0_off21 (grid0.coords t) = ![(Ring.sl 4 t.val).val, 0]
    ∧ k0_off24 (grid0.coords t) = ![(Ring.sl 4 t.val).val, 1] ∧ k0_off27 (grid0.coords t) = ![(Ring.sl 4 t.val).val, 2] := by decide +kernel
theorem next_blks : ∀ t : Fin grid0.N, goesOn (grid0.coords t) → k0_off23 (grid0.coords t) = ![4 * (Ring.bk 32 (t.val + 4)).val, 0, 0]
    ∧ k0_off26 (grid0.coords t) = ![4 * (Ring.bk 32 (t.val + 4)).val, 0, 0] ∧ k0_off29 (grid0.coords t) = ![4 * (Ring.bk 32 (t.val + 4)).val, 0, 0] := by decide +kernel

variable (t : Fin grid0.N) (h : goesOn (grid0.coords t))

@[sl_canon] theorem wait_slot0 : (scr0.slice (Rect.unit (s := S4x4x512x256) (k0_off2 (grid0.coords t)) S1x4x512x256.size (k0_off2_inb (grid0.coords t))) (fun _ => rfl)).squeeze S4x512x256 squeezes_S1x4x512x256_S4x512x256 = slot0 (Ring.sl 4 t.val) :=
  slot0_of (wait_slots t).1 _
@[sl_canon] theorem wait_slot1 : (scr1.slice (Rect.unit (s := S4x4x512x512) (k0_off4 (grid0.coords t)) S1x4x512x512.size (k0_off4_inb (grid0.coords t))) (fun _ => rfl)).squeeze S4x512x512 squeezes_S1x4x512x512_S4x512x512 = slot1 (Ring.sl 4 t.val) :=
  slot1_of (wait_slots t).2.1 _
@[sl_canon] theorem wait_slot2 : (scr2.slice (Rect.unit (s := S4x4x256x512) (k0_off6 (grid0.coords t)) S1x4x256x512.size (k0_off6_inb (grid0.coords t))) (fun _ => rfl)).squeeze S4x256x512 squeezes_S1x4x256x512_S4x256x512 = slot2 (Ring.sl 4 t.val) :=
  slot2_of (wait_slots t).2.2 _
@[sl_canon] theorem wait_bell0 : (cc0_scratch3.slice (Rect.unit (s := S4x3) (k0_off1 (grid0.coords t)) S1x1.size (k0_off1_inb (grid0.coords t)))).squeeze S_ squeezes_S1x1_S_ = bell (Ring.sl 4 t.val) 0 :=
  bell_of (wait_bells t).1 _
@[sl_canon] theorem wait_bell1 : (cc0_scratch3.slice (Rect.unit (s := S4x3) (k0_off3 (grid0.coords t)) S1x1.size (k0_off3_inb (grid0.coords t)))).squeeze S_ squeezes_S1x1_S_ = bell (Ring.sl 4 t.val) 1 :=
  bell_of (wait_bells t).2.1 _
@[sl_canon] theorem wait_bell2 : (cc0_scratch3.slice (Rect.unit (s := S4x3) (k0_off5 (grid0.coords t)) S1x1.size (k0_off5_inb (grid0.coords t)))).squeeze S_ squeezes_S1x1_S_ = bell (Ring.sl 4 t.val) 2 :=
  bell_of (wait_bells t).2.2 _
@[sl_canon] theorem next_slot0 : (scr0.slice (Rect.unit (s := S4x4x512x256) (k0_off22 (grid0.coords t)) S1x4x512x256.size (k0_off22_inb (grid0.coords t) h)) (fun _ => rfl)).squeeze S4x512x256 squeezes_S1x4x512x256_S4x512x256 = slot0 (Ring.sl 4 t.val) :=
  slot0_of (next_slots t).1 _
@[sl_canon] theorem next_slot1 : (scr1.slice (Rect.unit (s := S4x4x512x512) (k0_off25 (grid0.coords t)) S1x4x512x512.size (k0_off25_inb (grid0.coords t) h)) (fun _ => rfl)).squeeze S4x512x512 squeezes_S1x4x512x512_S4x512x512 = slot1 (Ring.sl 4 t.val) :=
  slot1_of (next_slots t).2.1 _
@[sl_canon] theorem next_slot2 : (scr2.slice (Rect.unit (s := S4x4x256x512) (k0_off28 (grid0.coords t)) S1x4x256x512.size (k0_off28_inb (grid0.coords t) h)) (fun _ => rfl)).squeeze S4x256x512 squeezes_S1x4x256x512_S4x256x512 = slot2 (Ring.sl 4 t.val) :=
  slot2_of (next_slots t).2.2 _
@[sl_canon] theorem next_bell0 : (cc0_scratch3.slice (Rect.unit (s := S4x3) (k0_off21 (grid0.coords t)) S1x1.size (k0_off21_inb (grid0.coords t) h))).squeeze S_ squeezes_S1x1_S_ = bell (Ring.sl 4 t.val) 0 :=
  bell_of (next_bells t).1 _
@[sl_canon] theorem next_bell1 : (cc0_scratch3.slice (Rect.unit (s := S4x3) (k0_off24 (grid0.coords t)) S1x1.size (k0_off24_inb (grid0.coords t) h))).squeeze S_ squeezes_S1x1_S_ = bell (Ring.sl 4 t.val) 1 :=
  bell_of (next_bells t).2.1 _
@[sl_canon] theorem next_bell2 : (cc0_scratch3.slice (Rect.unit (s := S4x3) (k0_off27 (grid0.coords t)) S1x1.size (k0_off27_inb (grid0.coords t) h))).squeeze S_ squeezes_S1x1_S_ = bell (Ring.sl 4 t.val) 2 :=
  bell_of (next_bells t).2.2 _
@[sl_canon] theorem next_blk0 : arr0.slice (Rect.unit (s := S128x512x256) (k0_off23 (grid0.coords t)) S4x512x256.size (k0_off23_inb (grid0.coords t) h)) (fun _ => rfl) = blk0 (Ring.bk 32 (t.val + 4)) :=
  blk0_of (next_blks t h).1 _
@[sl_canon] theorem next_blk1 : arr1.slice (Rect.unit (s := S128x512x512) (k0_off26 (grid0.coords t)) S4x512x512.size (k0_off26_inb (grid0.coords t) h)) (fun _ => rfl) = blk1 (Ring.bk 32 (t.val + 4)) :=
  blk1_of (next_blks t h).2.1 _
@[sl_canon] theorem next_blk2 : arr2.slice (Rect.unit (s := S128x256x512) (k0_off29 (grid0.coords t)) S4x256x512.size (k0_off29_inb (grid0.coords t) h)) (fun _ => rfl) = blk2 (Ring.bk 32 (t.val + 4)) :=
  blk2_of (next_blks t h).2.2 _

/-- The four reads of each slot, one for each variable of the block. -/
theorem reads0 : ∀ t : Fin grid0.N, k0_off7 (grid0.coords t) = ![(Ring.sl 4 t.val).val, 0, 0, 0] ∧ k0_off12 (grid0.coords t) = ![(Ring.sl 4 t.val).val, 1, 0, 0]
    ∧ k0_off15 (grid0.coords t) = ![(Ring.sl 4 t.val).val, 2, 0, 0] ∧ k0_off18 (grid0.coords t) = ![(Ring.sl 4 t.val).val, 3, 0, 0] := by decide +kernel
theorem reads1 : ∀ t : Fin grid0.N, k0_off9 (grid0.coords t) = ![(Ring.sl 4 t.val).val, 0, 0, 0] ∧ k0_off13 (grid0.coords t) = ![(Ring.sl 4 t.val).val, 1, 0, 0]
    ∧ k0_off16 (grid0.coords t) = ![(Ring.sl 4 t.val).val, 2, 0, 0] ∧ k0_off19 (grid0.coords t) = ![(Ring.sl 4 t.val).val, 3, 0, 0] := by decide +kernel
theorem reads2 : ∀ t : Fin grid0.N, k0_off10 (grid0.coords t) = ![(Ring.sl 4 t.val).val, 0, 0, 0] ∧ k0_off14 (grid0.coords t) = ![(Ring.sl 4 t.val).val, 1, 0, 0]
    ∧ k0_off17 (grid0.coords t) = ![(Ring.sl 4 t.val).val, 2, 0, 0] ∧ k0_off20 (grid0.coords t) = ![(Ring.sl 4 t.val).val, 3, 0, 0] := by decide +kernel

instance (priority := high) : ClosedOff (k0_off7 (grid0.coords t)) := ⟨![(Ring.sl 4 t.val).val, 0, 0, 0], (reads0 t).1⟩
instance (priority := high) : ClosedOff (k0_off12 (grid0.coords t)) := ⟨![(Ring.sl 4 t.val).val, 1, 0, 0], (reads0 t).2.1⟩
instance (priority := high) : ClosedOff (k0_off15 (grid0.coords t)) := ⟨![(Ring.sl 4 t.val).val, 2, 0, 0], (reads0 t).2.2.1⟩
instance (priority := high) : ClosedOff (k0_off18 (grid0.coords t)) := ⟨![(Ring.sl 4 t.val).val, 3, 0, 0], (reads0 t).2.2.2⟩
instance (priority := high) : ClosedOff (k0_off9 (grid0.coords t)) := ⟨![(Ring.sl 4 t.val).val, 0, 0, 0], (reads1 t).1⟩
instance (priority := high) : ClosedOff (k0_off13 (grid0.coords t)) := ⟨![(Ring.sl 4 t.val).val, 1, 0, 0], (reads1 t).2.1⟩
instance (priority := high) : ClosedOff (k0_off16 (grid0.coords t)) := ⟨![(Ring.sl 4 t.val).val, 2, 0, 0], (reads1 t).2.2.1⟩
instance (priority := high) : ClosedOff (k0_off19 (grid0.coords t)) := ⟨![(Ring.sl 4 t.val).val, 3, 0, 0], (reads1 t).2.2.2⟩
instance (priority := high) : ClosedOff (k0_off10 (grid0.coords t)) := ⟨![(Ring.sl 4 t.val).val, 0, 0, 0], (reads2 t).1⟩
instance (priority := high) : ClosedOff (k0_off14 (grid0.coords t)) := ⟨![(Ring.sl 4 t.val).val, 1, 0, 0], (reads2 t).2.1⟩
instance (priority := high) : ClosedOff (k0_off17 (grid0.coords t)) := ⟨![(Ring.sl 4 t.val).val, 2, 0, 0], (reads2 t).2.2.1⟩
instance (priority := high) : ClosedOff (k0_off20 (grid0.coords t)) := ⟨![(Ring.sl 4 t.val).val, 3, 0, 0], (reads2 t).2.2.2⟩

end Offsets

/-! ## The pieces of a slot -/

section Pieces

variable (c : Dev nD)

/-- Slot `s` at rest: its semaphore at zero, its elements, and its quarter of the array's read permission. -/
abbrev free0 (W : Contents (F := F) c arr0) (s : Fin 4) : sProp 𝕄 :=
  iprop(semVal ((c : Thread nD τ), bellAt s 0) 0 ∗ (∃ f, held c (slot0 s) fullShare f) ∗ atRest ((c : Thread nD τ).loc main_arg1) (quarter s) W)
abbrev free1 (W : Contents (F := F) c arr1) (s : Fin 4) : sProp 𝕄 :=
  iprop(semVal ((c : Thread nD τ), bellAt s 1) 0 ∗ (∃ f, held c (slot1 s) fullShare f) ∗ atRest ((c : Thread nD τ).loc main_arg3) (quarter s) W)
abbrev free2 (W : Contents (F := F) c arr2) (s : Fin 4) : sProp 𝕄 :=
  iprop(semVal ((c : Thread nD τ), bellAt s 2) 0 ∗ (∃ f, held c (slot2 s) fullShare f) ∗ atRest ((c : Thread nD τ).loc main_arg5) (quarter s) W)

/-- Block `b` on its way into slot `s`, borrowing from the share `q`, with what is left of `q` and the slot's other share `q'`. -/
abbrev sent0 (W : Contents (F := F) c arr0) (s : Fin 4) (b : Fin 32) (q q' : PosShare TreeShare) : sProp 𝕄 :=
  iprop((∃ f, copying c (blk0 b) (slot0 s) (bellAt s 0) q W f) ∗ notLent ((c : Thread nD τ).loc main_arg1) (blk0 b).view.set q W ∗ atRest ((c : Thread nD τ).loc main_arg1) q' W)
abbrev sent1 (W : Contents (F := F) c arr1) (s : Fin 4) (b : Fin 32) (q q' : PosShare TreeShare) : sProp 𝕄 :=
  iprop((∃ f, copying c (blk1 b) (slot1 s) (bellAt s 1) q W f) ∗ notLent ((c : Thread nD τ).loc main_arg3) (blk1 b).view.set q W ∗ atRest ((c : Thread nD τ).loc main_arg3) q' W)
abbrev sent2 (W : Contents (F := F) c arr2) (s : Fin 4) (b : Fin 32) (q q' : PosShare TreeShare) : sProp 𝕄 :=
  iprop((∃ f, copying c (blk2 b) (slot2 s) (bellAt s 2) q W f) ∗ notLent ((c : Thread nD τ).loc main_arg5) (blk2 b).view.set q W ∗ atRest ((c : Thread nD τ).loc main_arg5) q' W)

/-- Block `k` on its way. -/
abbrev going0 (W : Contents (F := F) c arr0) (k : ℕ) : sProp 𝕄 := sent0 c W (Ring.sl 4 k) (Ring.bk 32 k) (eighth k) (eighth (k + 4))
abbrev going1 (W : Contents (F := F) c arr1) (k : ℕ) : sProp 𝕄 := sent1 c W (Ring.sl 4 k) (Ring.bk 32 k) (eighth k) (eighth (k + 4))
abbrev going2 (W : Contents (F := F) c arr2) (k : ℕ) : sProp 𝕄 := sent2 c W (Ring.sl 4 k) (Ring.bk 32 k) (eighth k) (eighth (k + 4))

/-- A share of an array is block `b`'s elements and the rest. -/
theorem lend0 (W : Contents (F := F) c arr0) (b : Fin 32) (q : PosShare TreeShare) :
    (atRest ((c : Thread nD τ).loc main_arg1) q W : sProp 𝕄) ⊣⊢ iprop(held c (blk0 b) q W ∗ notLent ((c : Thread nD τ).loc main_arg1) (blk0 b).view.set q W) :=
  atRest_lend W _ q
theorem lend1 (W : Contents (F := F) c arr1) (b : Fin 32) (q : PosShare TreeShare) :
    (atRest ((c : Thread nD τ).loc main_arg3) q W : sProp 𝕄) ⊣⊢ iprop(held c (blk1 b) q W ∗ notLent ((c : Thread nD τ).loc main_arg3) (blk1 b).view.set q W) :=
  atRest_lend W _ q
theorem lend2 (W : Contents (F := F) c arr2) (b : Fin 32) (q : PosShare TreeShare) :
    (atRest ((c : Thread nD τ).loc main_arg5) q W : sProp 𝕄) ⊣⊢ iprop(held c (blk2 b) q W ∗ notLent ((c : Thread nD τ).loc main_arg5) (blk2 b).view.set q W) :=
  atRest_lend W _ q

/-- A slot's quarter of an array is block `k`'s elements of the eighth its copy borrows from, the rest of that eighth, and the
    slot's other eighth. -/
theorem cut0 (W : Contents (F := F) c arr0) (k : ℕ) :
    (atRest ((c : Thread nD τ).loc main_arg1) (quarter (Ring.sl 4 k)) W : sProp 𝕄)
      ⊣⊢ iprop(held c (blk0 (Ring.bk 32 k)) (eighth k) W ∗ notLent ((c : Thread nD τ).loc main_arg1) (blk0 (Ring.bk 32 k)).view.set (eighth k) W
          ∗ atRest ((c : Thread nD τ).loc main_arg1) (eighth (k + 4)) W) :=
  quarter_cut W _ k
theorem cut1 (W : Contents (F := F) c arr1) (k : ℕ) :
    (atRest ((c : Thread nD τ).loc main_arg3) (quarter (Ring.sl 4 k)) W : sProp 𝕄)
      ⊣⊢ iprop(held c (blk1 (Ring.bk 32 k)) (eighth k) W ∗ notLent ((c : Thread nD τ).loc main_arg3) (blk1 (Ring.bk 32 k)).view.set (eighth k) W
          ∗ atRest ((c : Thread nD τ).loc main_arg3) (eighth (k + 4)) W) :=
  quarter_cut W _ k
theorem cut2 (W : Contents (F := F) c arr2) (k : ℕ) :
    (atRest ((c : Thread nD τ).loc main_arg5) (quarter (Ring.sl 4 k)) W : sProp 𝕄)
      ⊣⊢ iprop(held c (blk2 (Ring.bk 32 k)) (eighth k) W ∗ notLent ((c : Thread nD τ).loc main_arg5) (blk2 (Ring.bk 32 k)).view.set (eighth k) W
          ∗ atRest ((c : Thread nD τ).loc main_arg5) (eighth (k + 4)) W) :=
  quarter_cut W _ k

end Pieces

end Cert.KernelIdeal.Mlp

end
-- ==== Proof.Deal.lean ====
module

public import proofs.«01_k».proof.Proof.Streams

/-!
# Dealing the launch's pieces out to the slots

The launch hands the region each scratch buffer whole, each semaphore at zero and each weight array whole; the slots at
rest are the same pieces, dealt out slot by slot. This file says so, in both directions.
-/

@[expose] public section

set_option maxRecDepth 16384

noncomputable section

namespace Mlp

open Idealize.SL Idealize.SL.RA Idealize.SL.BI
open scoped Idealize.SL.BI
open Idealize.SL.BI.BIBase Idealize.SL.BI.Laws Idealize.SL.ProofMode Idealize.SL.Sem

/-- A buffer cut in four and an array's permission cut in four, with four semaphores, are four slots at rest. -/
theorem deal_four {M : Type _} [URA M] {A B : sProp M} (sem slot rest : Fin 4 → sProp M)
    (hA : A ⊣⊢ iprop(slot 0 ∗ slot 1 ∗ slot 2 ∗ slot 3)) (hB : B ⊣⊢ iprop(rest 0 ∗ rest 1 ∗ rest 2 ∗ rest 3)) :
    iprop(A ∗ (sem 0 ∗ sem 1 ∗ sem 2 ∗ sem 3) ∗ B) ⊣⊢ idle fun s => iprop(sem s ∗ slot s ∗ rest s) := by
  unfold idle
  refine ⟨?_, ?_⟩
  · iintro ⟨HA, ⟨S0, S1, S2, S3⟩, HB⟩
    ihave HA' := hA.1 $$ HA
    ihave HB' := hB.1 $$ HB
    icases HA' with ⟨A0, A1, A2, A3⟩
    icases HB' with ⟨B0, B1, B2, B3⟩
    isplitl [S0 A0 B0]
    · isplitl [S0]; · iexact S0
      isplitl [A0]; · iexact A0
      iexact B0
    isplitl [S1 A1 B1]
    · isplitl [S1]; · iexact S1
      isplitl [A1]; · iexact A1
      iexact B1
    isplitl [S2 A2 B2]
    · isplitl [S2]; · iexact S2
      isplitl [A2]; · iexact A2
      iexact B2
    isplitl [S3]; · iexact S3
    isplitl [A3]; · iexact A3
    iexact B3
  · iintro ⟨⟨S0, A0, B0⟩, ⟨S1, A1, B1⟩, ⟨S2, A2, B2⟩, ⟨S3, A3, B3⟩⟩
    isplitl [A0 A1 A2 A3]
    · iapply hA.2
      isplitl [A0]; · iexact A0
      isplitl [A1]; · iexact A1
      isplitl [A2]; · iexact A2
      iexact A3
    isplitl [S0 S1 S2 S3]
    · isplitl [S0]; · iexact S0
      isplitl [S1]; · iexact S1
      isplitl [S2]; · iexact S2
      iexact S3
    iapply hB.2
    isplitl [B0]; · iexact B0
    isplitl [B1]; · iexact B1
    isplitl [B2]; · iexact B2
    iexact B3

end Mlp

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch buffers cut into their slots -/

/-- The elements of slot `s` in its buffer. -/
abbrev part0 (s : Fin 4) : Finset S4x4x512x256.Idx := (Rect.unit (s := S4x4x512x256) ![s.val, 0, 0, 0] S1x4x512x256.size (slot0_inb s)).set
abbrev part1 (s : Fin 4) : Finset S4x4x512x512.Idx := (Rect.unit (s := S4x4x512x512) ![s.val, 0, 0, 0] S1x4x512x512.size (slot1_inb s)).set
abbrev part2 (s : Fin 4) : Finset S4x4x256x512.Idx := (Rect.unit (s := S4x4x256x512) ![s.val, 0, 0, 0] S1x4x256x512.size (slot2_inb s)).set

/-- The elements a slot's view reaches are the slot's part of the buffer. -/
theorem slot0_set (s : Fin 4) : (slot0 s).view.set = part0 s := by
  simp only [slot0, Memref.view_squeeze, View.set_reshape]; exact View.set_slice_whole _ _
theorem slot1_set (s : Fin 4) : (slot1 s).view.set = part1 s := by
  simp only [slot1, Memref.view_squeeze, View.set_reshape]; exact View.set_slice_whole _ _
theorem slot2_set (s : Fin 4) : (slot2 s).view.set = part2 s := by
  simp only [slot2, Memref.view_squeeze, View.set_reshape]; exact View.set_slice_whole _ _

/-- The parts of any one buffer of shape `[4, a, b, c]` along its first axis are disjoint. -/
theorem parts_disjoint (d z : Fin 3 → Nat) (inb : ∀ s : Fin 4, ∀ a, (![s.val, 0, 0, 0] : Fin 4 → Nat) a + (![1, z 0, z 1, z 2] : Fin 4 → Nat) a ≤ (![4, d 0, d 1, d 2] : Fin 4 → Nat) a)
    (s s' : Fin 4) (h : s ≠ s') :
    Disjoint (Rect.unit (s := ⟨4, ![4, d 0, d 1, d 2]⟩) ![s.val, 0, 0, 0] ![1, z 0, z 1, z 2] (inb s)).set
      (Rect.unit (s := ⟨4, ![4, d 0, d 1, d 2]⟩) ![s'.val, 0, 0, 0] ![1, z 0, z 1, z 2] (inb s')).set :=
  Ring.lead_disjoint (s := ⟨4, ![4, d 0, d 1, d 2]⟩) (0 : Fin 4) 1 (fun s : Fin 4 => (![s.val, 0, 0, 0] : Fin 4 → Nat)) ![1, z 0, z 1, z 2] inb
    (fun s => by simp) rfl s s' h
/-- The parts along the first axis make up the buffer. -/
theorem parts_cover (d : Fin 3 → Nat) (inb : ∀ s : Fin 4, ∀ a, (![s.val, 0, 0, 0] : Fin 4 → Nat) a + (![1, d 0, d 1, d 2] : Fin 4 → Nat) a ≤ (![4, d 0, d 1, d 2] : Fin 4 → Nat) a) :
    Finset.univ.biUnion (fun s : Fin 4 => (Rect.unit (s := ⟨4, ![4, d 0, d 1, d 2]⟩) ![s.val, 0, 0, 0] ![1, d 0, d 1, d 2] (inb s)).set) = Finset.univ :=
  Ring.lead_cover (s := ⟨4, ![4, d 0, d 1, d 2]⟩) (0 : Fin 4) 1 (fun s : Fin 4 => (![s.val, 0, 0, 0] : Fin 4 → Nat)) ![1, d 0, d 1, d 2] inb (fun s => by simp)
    (fun s a ha => by fin_cases a <;> first | exact absurd rfl ha | rfl) rfl (fun a ha => by fin_cases a <;> first | exact absurd rfl ha | rfl) rfl

section Cut

variable (c : Dev nD)

omit [FloatOps F] in
/-- A slot held whole is its elements of the buffer held. -/
theorem held_slot0 (s : Fin 4) (f : Contents (F := F) c scr0) :
    (held (F := F) c (slot0 s) fullShare f : sProp 𝕄) = ((c : Thread nD τ).loc cc0_scratch0 ↦[part0 s]{fullShare} f : sProp 𝕄) := by
  rw [← slot0_set]; rfl
omit [FloatOps F] in
theorem held_slot1 (s : Fin 4) (f : Contents (F := F) c scr1) :
    (held (F := F) c (slot1 s) fullShare f : sProp 𝕄) = ((c : Thread nD τ).loc cc0_scratch1 ↦[part1 s]{fullShare} f : sProp 𝕄) := by
  rw [← slot1_set]; rfl
omit [FloatOps F] in
theorem held_slot2 (s : Fin 4) (f : Contents (F := F) c scr2) :
    (held (F := F) c (slot2 s) fullShare f : sProp 𝕄) = ((c : Thread nD τ).loc cc0_scratch2 ↦[part2 s]{fullShare} f : sProp 𝕄) := by
  rw [← slot2_set]; rfl

omit [FloatOps F] in
/-- A scratch buffer whole, at any contents, is its four slots at any contents. -/
theorem cut_scr0 : (iprop(∃ d, (c : Thread nD τ).loc cc0_scratch0 ↦{fullShare} d) : sProp 𝕄)
    ⊣⊢ iprop((∃ f, held (F := F) c (slot0 0) fullShare f) ∗ (∃ f, held (F := F) c (slot0 1) fullShare f) ∗ (∃ f, held (F := F) c (slot0 2) fullShare f) ∗ (∃ f, held (F := F) c (slot0 3) fullShare f)) :=
  ⟨Ring.slots4_split (U := Pipeline.UD sig nD τ) (ℓ := (c : Thread nD τ).loc cc0_scratch0) (q := fullShare) part0
      (parts_disjoint ![4, 512, 256] ![4, 512, 256] slot0_inb) (parts_cover ![4, 512, 256] slot0_inb)
      (held c (slot0 0) fullShare) (held c (slot0 1) fullShare) (held c (slot0 2) fullShare) (held c (slot0 3) fullShare) (held_slot0 c 0) (held_slot0 c 1) (held_slot0 c 2) (held_slot0 c 3),
    Ring.slots4_join (U := Pipeline.UD sig nD τ) (ℓ := (c : Thread nD τ).loc cc0_scratch0) (q := fullShare) part0
      (parts_disjoint ![4, 512, 256] ![4, 512, 256] slot0_inb) (parts_cover ![4, 512, 256] slot0_inb)
      (held c (slot0 0) fullShare) (held c (slot0 1) fullShare) (held c (slot0 2) fullShare) (held c (slot0 3) fullShare) (held_slot0 c 0) (held_slot0 c 1) (held_slot0 c 2) (held_slot0 c 3)⟩
omit [FloatOps F] in
theorem cut_scr1 : (iprop(∃ d, (c : Thread nD τ).loc cc0_scratch1 ↦{fullShare} d) : sProp 𝕄)
    ⊣⊢ iprop((∃ f, held (F := F) c (slot1 0) fullShare f) ∗ (∃ f, held (F := F) c (slot1 1) fullShare f) ∗ (∃ f, held (F := F) c (slot1 2) fullShare f) ∗ (∃ f, held (F := F) c (slot1 3) fullShare f)) :=
  ⟨Ring.slots4_split (U := Pipeline.UD sig nD τ) (ℓ := (c : Thread nD τ).loc cc0_scratch1) (q := fullShare) part1
      (parts_disjoint ![4, 512, 512] ![4, 512, 512] slot1_inb) (parts_cover ![4, 512, 512] slot1_inb)
      (held c (slot1 0) fullShare) (held c (slot1 1) fullShare) (held c (slot1 2) fullShare) (held c (slot1 3) fullShare) (held_slot1 c 0) (held_slot1 c 1) (held_slot1 c 2) (held_slot1 c 3),
    Ring.slots4_join (U := Pipeline.UD sig nD τ) (ℓ := (c : Thread nD τ).loc cc0_scratch1) (q := fullShare) part1
      (parts_disjoint ![4, 512, 512] ![4, 512, 512] slot1_inb) (parts_cover ![4, 512, 512] slot1_inb)
      (held c (slot1 0) fullShare) (held c (slot1 1) fullShare) (held c (slot1 2) fullShare) (held c (slot1 3) fullShare) (held_slot1 c 0) (held_slot1 c 1) (held_slot1 c 2) (held_slot1 c 3)⟩
omit [FloatOps F] in
theorem cut_scr2 : (iprop(∃ d, (c : Thread nD τ).loc cc0_scratch2 ↦{fullShare} d) : sProp 𝕄)
    ⊣⊢ iprop((∃ f, held (F := F) c (slot2 0) fullShare f) ∗ (∃ f, held (F := F) c (slot2 1) fullShare f) ∗ (∃ f, held (F := F) c (slot2 2) fullShare f) ∗ (∃ f, held (F := F) c (slot2 3) fullShare f)) :=
  ⟨Ring.slots4_split (U := Pipeline.UD sig nD τ) (ℓ := (c : Thread nD τ).loc cc0_scratch2) (q := fullShare) part2
      (parts_disjoint ![4, 256, 512] ![4, 256, 512] slot2_inb) (parts_cover ![4, 256, 512] slot2_inb)
      (held c (slot2 0) fullShare) (held c (slot2 1) fullShare) (held c (slot2 2) fullShare) (held c (slot2 3) fullShare) (held_slot2 c 0) (held_slot2 c 1) (held_slot2 c 2) (held_slot2 c 3),
    Ring.slots4_join (U := Pipeline.UD sig nD τ) (ℓ := (c : Thread nD τ).loc cc0_scratch2) (q := fullShare) part2
      (parts_disjoint ![4, 256, 512] ![4, 256, 512] slot2_inb) (parts_cover ![4, 256, 512] slot2_inb)
      (held c (slot2 0) fullShare) (held c (slot2 1) fullShare) (held c (slot2 2) fullShare) (held c (slot2 3) fullShare) (held_slot2 c 0) (held_slot2 c 1) (held_slot2 c 2) (held_slot2 c 3)⟩

/-! ## The launch's pieces are the slots at rest -/

/-- The four semaphores of array `j` at zero. -/
abbrev silent (j : Fin 3) : sProp 𝕄 :=
  iprop(semVal ((c : Thread nD τ), bellAt 0 j) 0 ∗ semVal ((c : Thread nD τ), bellAt 1 j) 0 ∗ semVal ((c : Thread nD τ), bellAt 2 j) 0 ∗ semVal ((c : Thread nD τ), bellAt 3 j) 0)

omit [FloatOps F] in
/-- A scratch buffer whole, its semaphores at zero and its array whole are the array's four slots at rest. -/
theorem deal0 (W : Contents (F := F) c arr0) :
    (iprop((∃ d, (c : Thread nD τ).loc cc0_scratch0 ↦{fullShare} d) ∗ silent c 0 ∗ ((c : Thread nD τ).loc main_arg1 ↦{fullShare} W)) : sProp 𝕄)
      ⊣⊢ idle (free0 c W) :=
  deal_four (fun s => semVal ((c : Thread nD τ), bellAt s 0) 0) (fun s => iprop(∃ f, held (F := F) c (slot0 s) fullShare f))
    (fun s => atRest ((c : Thread nD τ).loc main_arg1) (quarter s) W) (cut_scr0 c) (whole_quarters W)
omit [FloatOps F] in
theorem deal1 (W : Contents (F := F) c arr1) :
    (iprop((∃ d, (c : Thread nD τ).loc cc0_scratch1 ↦{fullShare} d) ∗ silent c 1 ∗ ((c : Thread nD τ).loc main_arg3 ↦{fullShare} W)) : sProp 𝕄)
      ⊣⊢ idle (free1 c W) :=
  deal_four (fun s => semVal ((c : Thread nD τ), bellAt s 1) 0) (fun s => iprop(∃ f, held (F := F) c (slot1 s) fullShare f))
    (fun s => atRest ((c : Thread nD τ).loc main_arg3) (quarter s) W) (cut_scr1 c) (whole_quarters W)
omit [FloatOps F] in
theorem deal2 (W : Contents (F := F) c arr2) :
    (iprop((∃ d, (c : Thread nD τ).loc cc0_scratch2 ↦{fullShare} d) ∗ silent c 2 ∗ ((c : Thread nD τ).loc main_arg5 ↦{fullShare} W)) : sProp 𝕄)
      ⊣⊢ idle (free2 c W) :=
  deal_four (fun s => semVal ((c : Thread nD τ), bellAt s 2) 0) (fun s => iprop(∃ f, held (F := F) c (slot2 s) fullShare f))
    (fun s => atRest ((c : Thread nD τ).loc main_arg5) (quarter s) W) (cut_scr2 c) (whole_quarters W)

end Cut

end Cert.KernelIdeal.Mlp

end
-- ==== Proof.StepMiddle.lean ====
module

public import proofs.«01_k».proof.Proof.Streams

/-!
# A middle step of the kernel

Grid points 1 to 27: the step waits for its block in its slot, computes the four variables of the block, and starts
the block four further on into the same slot.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 2000000 in
/-- What a middle step stores in the output block, with the proof that the step runs: from the four input blocks, the
    output block at anything and block `t` on its way into its slot, to the same inputs, the output block with these
    pieces stored, and block `t + 4` on its way into the slot. -/
noncomputable def stepMiddle (c : Dev nD) (t : Fin cfg0.N)
    (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (arg8 : Memref sig .tc .vmem S1024x4x1x256 .f32) (harg8 : arg8.IsWhole)
    (hc0 : ¬atStart (grid0.coords t)) (hc1 : goesOn (grid0.coords t))
    (x0 : Vec F S1024x4x1x256 .f32) (x1 : Vec F S128x1x512 .f32) (x2 : Vec F S128x1x512 .f32) (x3 : Vec F S128x1x256 .f32)
    (W0 : Contents (F := F) c arr0) (W1 : Contents (F := F) c arr1) (W2 : Contents (F := F) c arr2) :
    { L : List (View.Piece (Elt F) S1024x4x1x256 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg8 fullShare d)
            ∗ going0 c W0 t.val ∗ going1 c W1 t.val ∗ going2 c W2 t.val ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg8.view.loc (c : Thread nD τ) ↦[arg8.view.set]{fullShare} arg8.view.writes (Elt F) f L)
                ∗ sent0 c W0 (Ring.sl 4 t.val) (Ring.bk 32 (t.val + 4)) (eighth (t.val + 4)) (eighth t.val)
                ∗ sent1 c W1 (Ring.sl 4 t.val) (Ring.bk 32 (t.val + 4)) (eighth (t.val + 4)) (eighth t.val)
                ∗ sent2 c W2 (Ring.sl 4 t.val) (Ring.bk 32 (t.val + 4)) (eighth (t.val + 4)) (eighth t.val)
                ∗ (∃ W', owes (c : Thread nD τ) 0 W')) -∗ K ⟨⟩))
          ⊢ wp frame (wpE (defs₀ (F := F)) Variants.none c none) Set.univ
              (cc0__mlp_kernel (grid0.coords t) arg1 harg1 arg2 harg2 arg3 harg3 arg4 harg4 (Memref.whole main_arg1) (Memref.isWhole_whole _) (Memref.whole main_arg3) (Memref.isWhole_whole _) (Memref.whole main_arg5) (Memref.isWhole_whole _) arg8 harg8 scr0 (Memref.isWhole_whole _) scr1 (Memref.isWhole_whole _) scr2 (Memref.isWhole_whole _) cc0_scratch3) K } := by
  refine ⟨?_, fun W K => ?run⟩
  case run =>
    haveI : Fact (¬atStart (grid0.coords t)) := ⟨hc0⟩
    haveI : Fact (goesOn (grid0.coords t)) := ⟨hc1⟩
    simp only [cc0__mlp_kernel_eq_skeleton]; unfold cc0__mlp_kernel_skel
    simp only [k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨⟨%g0, T0⟩, N0, A0⟩, ⟨⟨%g1, T1⟩, N1, A1⟩, ⟨⟨%g2, T2⟩, N2, A2⟩, HW, Hk⟩
    ihave B0 := (lend0 c W0 (Ring.bk 32 (t.val + 4)) (eighth (t.val + 4))).1 $$ A0
    icases B0 with ⟨L0, M0⟩
    ihave B1 := (lend1 c W1 (Ring.bk 32 (t.val + 4)) (eighth (t.val + 4))).1 $$ A1
    icases B1 with ⟨L1, M1⟩
    ihave B2 := (lend2 c W2 (Ring.bk 32 (t.val + 4)) (eighth (t.val + 4))).1 $$ A2
    icases B2 with ⟨L2, M2⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [T0 M0 T0_src N0]
    · isplitl [T0]; · iexists _; iexact T0
      isplitl [M0]; · iexact M0
      iapply (lend0 c W0 (Ring.bk 32 t.val) (eighth t.val)).2
      isplitl [T0_src]; · iexact T0_src
      iexact N0
    isplitl [T1 M1 T1_src N1]
    · isplitl [T1]; · iexists _; iexact T1
      isplitl [M1]; · iexact M1
      iapply (lend1 c W1 (Ring.bk 32 t.val) (eighth t.val)).2
      isplitl [T1_src]; · iexact T1_src
      iexact N1
    isplitl [T2 M2 T2_src N2]
    · isplitl [T2]; · iexists _; iexact T2
      isplitl [M2]; · iexact M2
      iapply (lend2 c W2 (Ring.bk 32 t.val) (eighth t.val)).2
      isplitl [T2_src]; · iexact T2_src
      iexact N2
    iexists _; iexact HW

end Cert.KernelIdeal.Mlp

end
-- ==== Proof.StepLate.lean ====
module

public import proofs.«01_k».proof.Proof.StepMiddle

/-!
# A late step of the kernel

Grid points 28 to 31: the step waits for its block in its slot and computes the four variables of the block; there is
no further block to start, so the slot is left at rest.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 2000000 in
/-- What a late step stores in the output block, with the proof that the step runs: from the four input blocks, the
    output block at anything and block `t` on its way into its slot, to the same inputs, the output block with these
    pieces stored, and the slot at rest. -/
noncomputable def stepLate (c : Dev nD) (t : Fin cfg0.N)
    (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (arg8 : Memref sig .tc .vmem S1024x4x1x256 .f32) (harg8 : arg8.IsWhole)
    (hc0 : ¬atStart (grid0.coords t)) (hc1 : ¬goesOn (grid0.coords t))
    (x0 : Vec F S1024x4x1x256 .f32) (x1 : Vec F S128x1x512 .f32) (x2 : Vec F S128x1x512 .f32) (x3 : Vec F S128x1x256 .f32)
    (W0 : Contents (F := F) c arr0) (W1 : Contents (F := F) c arr1) (W2 : Contents (F := F) c arr2) :
    { L : List (View.Piece (Elt F) S1024x4x1x256 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg8 fullShare d)
            ∗ going0 c W0 t.val ∗ going1 c W1 t.val ∗ going2 c W2 t.val ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg8.view.loc (c : Thread nD τ) ↦[arg8.view.set]{fullShare} arg8.view.writes (Elt F) f L)
                ∗ free0 c W0 (Ring.sl 4 t.val)
                ∗ free1 c W1 (Ring.sl 4 t.val)
                ∗ free2 c W2 (Ring.sl 4 t.val)
                ∗ (∃ W', owes (c : Thread nD τ) 0 W')) -∗ K ⟨⟩))
          ⊢ wp frame (wpE (defs₀ (F := F)) Variants.none c none) Set.univ
              (cc0__mlp_kernel (grid0.coords t) arg1 harg1 arg2 harg2 arg3 harg3 arg4 harg4 (Memref.whole main_arg1) (Memref.isWhole_whole _) (Memref.whole main_arg3) (Memref.isWhole_whole _) (Memref.whole main_arg5) (Memref.isWhole_whole _) arg8 harg8 scr0 (Memref.isWhole_whole _) scr1 (Memref.isWhole_whole _) scr2 (Memref.isWhole_whole _) cc0_scratch3) K } := by
  refine ⟨?_, fun W K => ?run⟩
  case run =>
    haveI : Fact (¬atStart (grid0.coords t)) := ⟨hc0⟩
    haveI : Fact (¬goesOn (grid0.coords t)) := ⟨hc1⟩
    simp only [cc0__mlp_kernel_eq_skeleton]; unfold cc0__mlp_kernel_skel
    simp only [k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨⟨%g0, T0⟩, N0, A0⟩, ⟨⟨%g1, T1⟩, N1, A1⟩, ⟨⟨%g2, T2⟩, N2, A2⟩, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [T0 T0_dst T0_src N0 A0]
    · isplitl [T0]; · iexact T0
      isplitl [T0_dst]; · iexists _; iexact T0_dst
      iapply (quarter_eighths W0 t.val).2
      isplitl [T0_src N0]
      · iapply (lend0 c W0 (Ring.bk 32 t.val) (eighth t.val)).2
        isplitl [T0_src]; · iexact T0_src
        iexact N0
      iexact A0
    isplitl [T1 T1_dst T1_src N1 A1]
    · isplitl [T1]; · iexact T1
      isplitl [T1_dst]; · iexists _; iexact T1_dst
      iapply (quarter_eighths W1 t.val).2
      isplitl [T1_src N1]
      · iapply (lend1 c W1 (Ring.bk 32 t.val) (eighth t.val)).2
        isplitl [T1_src]; · iexact T1_src
        iexact N1
      iexact A1
    isplitl [T2 T2_dst T2_src N2 A2]
    · isplitl [T2]; · iexact T2
      isplitl [T2_dst]; · iexists _; iexact T2_dst
      iapply (quarter_eighths W2 t.val).2
      isplitl [T2_src N2]
      · iapply (lend2 c W2 (Ring.bk 32 t.val) (eighth t.val)).2
        isplitl [T2_src]; · iexact T2_src
        iexact N2
      iexact A2
    iexists _; iexact HW

end Cert.KernelIdeal.Mlp

end
-- ==== Proof.StepFirst.lean ====
module

public import proofs.«01_k».proof.Proof.StepLate

/-!
# The first step of the kernel

Grid point 0: the step starts the first four blocks into the four slots, waits for its own, computes the four variables
of the block, and starts the block four further on into the slot it has read.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] bell

set_option maxHeartbeats 4000000 in
/-- What the first step stores in the output block, with the proof that the step runs: from the four input blocks, the
    output block at anything and the slots at rest, to the same inputs, the output block with these pieces stored, and
    the next four blocks on their way. -/
noncomputable def stepFirst (c : Dev nD) (t : Fin cfg0.N)
    (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (arg8 : Memref sig .tc .vmem S1024x4x1x256 .f32) (harg8 : arg8.IsWhole)
    (hc0 : atStart (grid0.coords t)) (hc1 : goesOn (grid0.coords t))
    (x0 : Vec F S1024x4x1x256 .f32) (x1 : Vec F S128x1x512 .f32) (x2 : Vec F S128x1x512 .f32) (x3 : Vec F S128x1x256 .f32)
    (W0 : Contents (F := F) c arr0) (W1 : Contents (F := F) c arr1) (W2 : Contents (F := F) c arr2) :
    { L : List (View.Piece (Elt F) S1024x4x1x256 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg8 fullShare d)
            ∗ free0 c W0 (Ring.sl 4 t.val) ∗ free0 c W0 (Ring.sl 4 (t.val + 1)) ∗ free0 c W0 (Ring.sl 4 (t.val + 2)) ∗ free0 c W0 (Ring.sl 4 (t.val + 3))
            ∗ free1 c W1 (Ring.sl 4 t.val) ∗ free1 c W1 (Ring.sl 4 (t.val + 1)) ∗ free1 c W1 (Ring.sl 4 (t.val + 2)) ∗ free1 c W1 (Ring.sl 4 (t.val + 3))
            ∗ free2 c W2 (Ring.sl 4 t.val) ∗ free2 c W2 (Ring.sl 4 (t.val + 1)) ∗ free2 c W2 (Ring.sl 4 (t.val + 2)) ∗ free2 c W2 (Ring.sl 4 (t.val + 3))
             ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg8.view.loc (c : Thread nD τ) ↦[arg8.view.set]{fullShare} arg8.view.writes (Elt F) f L)
                ∗ going0 c W0 (t.val + 1) ∗ going0 c W0 (t.val + 2) ∗ going0 c W0 (t.val + 3)
                ∗ sent0 c W0 (Ring.sl 4 t.val) (Ring.bk 32 (t.val + 4)) (eighth (t.val + 4)) (eighth t.val)
                ∗ going1 c W1 (t.val + 1) ∗ going1 c W1 (t.val + 2) ∗ going1 c W1 (t.val + 3)
                ∗ sent1 c W1 (Ring.sl 4 t.val) (Ring.bk 32 (t.val + 4)) (eighth (t.val + 4)) (eighth t.val)
                ∗ going2 c W2 (t.val + 1) ∗ going2 c W2 (t.val + 2) ∗ going2 c W2 (t.val + 3)
                ∗ sent2 c W2 (Ring.sl 4 t.val) (Ring.bk 32 (t.val + 4)) (eighth (t.val + 4)) (eighth t.val)
                ∗ (∃ W', owes (c : Thread nD τ) 0 W')) -∗ K ⟨⟩))
          ⊢ wp frame (wpE (defs₀ (F := F)) Variants.none c none) Set.univ
              (cc0__mlp_kernel (grid0.coords t) arg1 harg1 arg2 harg2 arg3 harg3 arg4 harg4 (Memref.whole main_arg1) (Memref.isWhole_whole _) (Memref.whole main_arg3) (Memref.isWhole_whole _) (Memref.whole main_arg5) (Memref.isWhole_whole _) arg8 harg8 scr0 (Memref.isWhole_whole _) scr1 (Memref.isWhole_whole _) scr2 (Memref.isWhole_whole _) cc0_scratch3) K } := by
  refine ⟨?_, fun W K => ?run⟩
  case run =>
    haveI : Fact (atStart (grid0.coords t)) := ⟨hc0⟩
    haveI : Fact (goesOn (grid0.coords t)) := ⟨hc1⟩
    simp only [cc0__mlp_kernel_eq_skeleton]; unfold cc0__mlp_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    have ht : t.val = 0 := (atStart_iff t).1 hc0
    have hcanon0 := slot0_of (s := Ring.sl 4 t.val) (o := ![0, 0, 0, 0]) (by rw [ht]; rfl) inb_S4x4x512x256_S1x4x512x256_0_0_0_0
    have hcanon1 := blk0_of (b := Ring.bk 32 t.val) (o := ![0, 0, 0]) (by rw [ht]; rfl) inb_S128x512x256_S4x512x256_0_0_0
    have hcanon2 := bell_of (s := Ring.sl 4 t.val) (j := 0) (o := ![0, 0]) (by rw [ht]; rfl) inb_S4x3_S1x1_0_0
    have hcanon3 := slot1_of (s := Ring.sl 4 t.val) (o := ![0, 0, 0, 0]) (by rw [ht]; rfl) inb_S4x4x512x512_S1x4x512x512_0_0_0_0
    have hcanon4 := blk1_of (b := Ring.bk 32 t.val) (o := ![0, 0, 0]) (by rw [ht]; rfl) inb_S128x512x512_S4x512x512_0_0_0
    have hcanon5 := bell_of (s := Ring.sl 4 t.val) (j := 1) (o := ![0, 1]) (by rw [ht]; rfl) inb_S4x3_S1x1_0_1
    have hcanon6 := slot2_of (s := Ring.sl 4 t.val) (o := ![0, 0, 0, 0]) (by rw [ht]; rfl) inb_S4x4x256x512_S1x4x256x512_0_0_0_0
    have hcanon7 := blk2_of (b := Ring.bk 32 t.val) (o := ![0, 0, 0]) (by rw [ht]; rfl) inb_S128x256x512_S4x256x512_0_0_0
    have hcanon8 := bell_of (s := Ring.sl 4 t.val) (j := 2) (o := ![0, 2]) (by rw [ht]; rfl) inb_S4x3_S1x1_0_2
    have hcanon9 := slot0_of (s := Ring.sl 4 (t.val + 1)) (o := ![1, 0, 0, 0]) (by rw [ht]; rfl) inb_S4x4x512x256_S1x4x512x256_1_0_0_0
    have hcanon10 := blk0_of (b := Ring.bk 32 (t.val + 1)) (o := ![4, 0, 0]) (by rw [ht]; rfl) inb_S128x512x256_S4x512x256_4_0_0
    have hcanon11 := bell_of (s := Ring.sl 4 (t.val + 1)) (j := 0) (o := ![1, 0]) (by rw [ht]; rfl) inb_S4x3_S1x1_1_0
    have hcanon12 := slot1_of (s := Ring.sl 4 (t.val + 1)) (o := ![1, 0, 0, 0]) (by rw [ht]; rfl) inb_S4x4x512x512_S1x4x512x512_1_0_0_0
    have hcanon13 := blk1_of (b := Ring.bk 32 (t.val + 1)) (o := ![4, 0, 0]) (by rw [ht]; rfl) inb_S128x512x512_S4x512x512_4_0_0
    have hcanon14 := bell_of (s := Ring.sl 4 (t.val + 1)) (j := 1) (o := ![1, 1]) (by rw [ht]; rfl) inb_S4x3_S1x1_1_1
    have hcanon15 := slot2_of (s := Ring.sl 4 (t.val + 1)) (o := ![1, 0, 0, 0]) (by rw [ht]; rfl) inb_S4x4x256x512_S1x4x256x512_1_0_0_0
    have hcanon16 := blk2_of (b := Ring.bk 32 (t.val + 1)) (o := ![4, 0, 0]) (by rw [ht]; rfl) inb_S128x256x512_S4x256x512_4_0_0
    have hcanon17 := bell_of (s := Ring.sl 4 (t.val + 1)) (j := 2) (o := ![1, 2]) (by rw [ht]; rfl) inb_S4x3_S1x1_1_2
    have hcanon18 := slot0_of (s := Ring.sl 4 (t.val + 2)) (o := ![2, 0, 0, 0]) (by rw [ht]; rfl) inb_S4x4x512x256_S1x4x512x256_2_0_0_0
    have hcanon19 := blk0_of (b := Ring.bk 32 (t.val + 2)) (o := ![8, 0, 0]) (by rw [ht]; rfl) inb_S128x512x256_S4x512x256_8_0_0
    have hcanon20 := bell_of (s := Ring.sl 4 (t.val + 2)) (j := 0) (o := ![2, 0]) (by rw [ht]; rfl) inb_S4x3_S1x1_2_0
    have hcanon21 := slot1_of (s := Ring.sl 4 (t.val + 2)) (o := ![2, 0, 0, 0]) (by rw [ht]; rfl) inb_S4x4x512x512_S1x4x512x512_2_0_0_0
    have hcanon22 := blk1_of (b := Ring.bk 32 (t.val + 2)) (o := ![8, 0, 0]) (by rw [ht]; rfl) inb_S128x512x512_S4x512x512_8_0_0
    have hcanon23 := bell_of (s := Ring.sl 4 (t.val + 2)) (j := 1) (o := ![2, 1]) (by rw [ht]; rfl) inb_S4x3_S1x1_2_1
    have hcanon24 := slot2_of (s := Ring.sl 4 (t.val + 2)) (o := ![2, 0, 0, 0]) (by rw [ht]; rfl) inb_S4x4x256x512_S1x4x256x512_2_0_0_0
    have hcanon25 := blk2_of (b := Ring.bk 32 (t.val + 2)) (o := ![8, 0, 0]) (by rw [ht]; rfl) inb_S128x256x512_S4x256x512_8_0_0
    have hcanon26 := bell_of (s := Ring.sl 4 (t.val + 2)) (j := 2) (o := ![2, 2]) (by rw [ht]; rfl) inb_S4x3_S1x1_2_2
    have hcanon27 := slot0_of (s := Ring.sl 4 (t.val + 3)) (o := ![3, 0, 0, 0]) (by rw [ht]; rfl) inb_S4x4x512x256_S1x4x512x256_3_0_0_0
    have hcanon28 := blk0_of (b := Ring.bk 32 (t.val + 3)) (o := ![12, 0, 0]) (by rw [ht]; rfl) inb_S128x512x256_S4x512x256_12_0_0
    have hcanon29 := bell_of (s := Ring.sl 4 (t.val + 3)) (j := 0) (o := ![3, 0]) (by rw [ht]; rfl) inb_S4x3_S1x1_3_0
    have hcanon30 := slot1_of (s := Ring.sl 4 (t.val + 3)) (o := ![3, 0, 0, 0]) (by rw [ht]; rfl) inb_S4x4x512x512_S1x4x512x512_3_0_0_0
    have hcanon31 := blk1_of (b := Ring.bk 32 (t.val + 3)) (o := ![12, 0, 0]) (by rw [ht]; rfl) inb_S128x512x512_S4x512x512_12_0_0
    have hcanon32 := bell_of (s := Ring.sl 4 (t.val + 3)) (j := 1) (o := ![3, 1]) (by rw [ht]; rfl) inb_S4x3_S1x1_3_1
    have hcanon33 := slot2_of (s := Ring.sl 4 (t.val + 3)) (o := ![3, 0, 0, 0]) (by rw [ht]; rfl) inb_S4x4x256x512_S1x4x256x512_3_0_0_0
    have hcanon34 := blk2_of (b := Ring.bk 32 (t.val + 3)) (o := ![12, 0, 0]) (by rw [ht]; rfl) inb_S128x256x512_S4x256x512_12_0_0
    have hcanon35 := bell_of (s := Ring.sl 4 (t.val + 3)) (j := 2) (o := ![3, 2]) (by rw [ht]; rfl) inb_S4x3_S1x1_3_2
    unfold owns
    iintro ⟨⟨%f0, %hf0, H0⟩, ⟨%f1, %hf1, H1⟩, ⟨%f2, %hf2, H2⟩, ⟨%f3, %hf3, H3⟩, ⟨%d4, %f4, -, H4⟩,
      ⟨C00, ⟨%g00, S00⟩, Q00⟩, ⟨C01, ⟨%g01, S01⟩, Q01⟩, ⟨C02, ⟨%g02, S02⟩, Q02⟩, ⟨C03, ⟨%g03, S03⟩, Q03⟩, ⟨C10, ⟨%g10, S10⟩, Q10⟩, ⟨C11, ⟨%g11, S11⟩, Q11⟩, ⟨C12, ⟨%g12, S12⟩, Q12⟩, ⟨C13, ⟨%g13, S13⟩, Q13⟩, ⟨C20, ⟨%g20, S20⟩, Q20⟩, ⟨C21, ⟨%g21, S21⟩, Q21⟩, ⟨C22, ⟨%g22, S22⟩, Q22⟩, ⟨C23, ⟨%g23, S23⟩, Q23⟩, HW, Hk⟩
    ihave E00 := (cut0 c W0 t.val).1 $$ Q00
    icases E00 with ⟨L00, N00, A00⟩
    ihave E01 := (cut0 c W0 (t.val + 1)).1 $$ Q01
    icases E01 with ⟨L01, N01, A01⟩
    ihave E02 := (cut0 c W0 (t.val + 2)).1 $$ Q02
    icases E02 with ⟨L02, N02, A02⟩
    ihave E03 := (cut0 c W0 (t.val + 3)).1 $$ Q03
    icases E03 with ⟨L03, N03, A03⟩
    ihave B0 := (lend0 c W0 (Ring.bk 32 (t.val + 4)) (eighth (t.val + 4))).1 $$ A00
    icases B0 with ⟨L0, M0⟩
    ihave E10 := (cut1 c W1 t.val).1 $$ Q10
    icases E10 with ⟨L10, N10, A10⟩
    ihave E11 := (cut1 c W1 (t.val + 1)).1 $$ Q11
    icases E11 with ⟨L11, N11, A11⟩
    ihave E12 := (cut1 c W1 (t.val + 2)).1 $$ Q12
    icases E12 with ⟨L12, N12, A12⟩
    ihave E13 := (cut1 c W1 (t.val + 3)).1 $$ Q13
    icases E13 with ⟨L13, N13, A13⟩
    ihave B1 := (lend1 c W1 (Ring.bk 32 (t.val + 4)) (eighth (t.val + 4))).1 $$ A10
    icases B1 with ⟨L1, M1⟩
    ihave E20 := (cut2 c W2 t.val).1 $$ Q20
    icases E20 with ⟨L20, N20, A20⟩
    ihave E21 := (cut2 c W2 (t.val + 1)).1 $$ Q21
    icases E21 with ⟨L21, N21, A21⟩
    ihave E22 := (cut2 c W2 (t.val + 2)).1 $$ Q22
    icases E22 with ⟨L22, N22, A22⟩
    ihave E23 := (cut2 c W2 (t.val + 3)).1 $$ Q23
    icases E23 with ⟨L23, N23, A23⟩
    ihave B2 := (lend2 c W2 (Ring.bk 32 (t.val + 4)) (eighth (t.val + 4))).1 $$ A20
    icases B2 with ⟨L2, M2⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [C01 N01 A01]
    · isplitl [C01]; · iexists _; iexact C01
      isplitl [N01]; · iexact N01
      iexact A01
    isplitl [C02 N02 A02]
    · isplitl [C02]; · iexists _; iexact C02
      isplitl [N02]; · iexact N02
      iexact A02
    isplitl [C03 N03 A03]
    · isplitl [C03]; · iexists _; iexact C03
      isplitl [N03]; · iexact N03
      iexact A03
    isplitl [C00 M0 L00 N00]
    · isplitl [C00]; · iexists _; iexact C00
      isplitl [M0]; · iexact M0
      iapply (lend0 c W0 (Ring.bk 32 t.val) (eighth t.val)).2
      isplitl [L00]; · iexact L00
      iexact N00
    isplitl [C11 N11 A11]
    · isplitl [C11]; · iexists _; iexact C11
      isplitl [N11]; · iexact N11
      iexact A11
    isplitl [C12 N12 A12]
    · isplitl [C12]; · iexists _; iexact C12
      isplitl [N12]; · iexact N12
      iexact A12
    isplitl [C13 N13 A13]
    · isplitl [C13]; · iexists _; iexact C13
      isplitl [N13]; · iexact N13
      iexact A13
    isplitl [C10 M1 L10 N10]
    · isplitl [C10]; · iexists _; iexact C10
      isplitl [M1]; · iexact M1
      iapply (lend1 c W1 (Ring.bk 32 t.val) (eighth t.val)).2
      isplitl [L10]; · iexact L10
      iexact N10
    isplitl [C21 N21 A21]
    · isplitl [C21]; · iexists _; iexact C21
      isplitl [N21]; · iexact N21
      iexact A21
    isplitl [C22 N22 A22]
    · isplitl [C22]; · iexists _; iexact C22
      isplitl [N22]; · iexact N22
      iexact A22
    isplitl [C23 N23 A23]
    · isplitl [C23]; · iexists _; iexact C23
      isplitl [N23]; · iexact N23
      iexact A23
    isplitl [C20 M2 L20 N20]
    · isplitl [C20]; · iexists _; iexact C20
      isplitl [M2]; · iexact M2
      iapply (lend2 c W2 (Ring.bk 32 t.val) (eighth t.val)).2
      isplitl [L20]; · iexact L20
      iexact N20
    iexists _; iexact HW

end Cert.KernelIdeal.Mlp

end
-- ==== Proof.Block.lean ====
module

public import proofs.«01_k».proof.Proof.StepFirst
public import Idealize.ShloMosaic.Lib.Pointwise
public import Idealize.ShloMosaic.Lib.WholeRead

/-!
# What one grid point stores

A grid point computes four variables. The four pieces it stores are one function of the blocks it reads: variable `i` of
the block goes through three layers with the weights of variable `4 t + i`. This file gives that function, and proves
that each of the three kinds of step stores it.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI

variable {F : FTy → Type} [FloatOps F]

/-- The three layers, on one variable: what the kernel's operations make of the rows `x`, the weights and the biases. -/
def layers (x : Vec F S1024x1x1x256 .f32) (w0 : Vec F S1x1x512x256 .f32) (b0 : Vec F S1x1x512 .f32) (w1 : Vec F S1x1x512x512 .f32)
    (b1 : Vec F S1x1x512 .f32) (w2 : Vec F S1x1x256x512 .f32) (b2 : Vec F S1x1x256 .f32) : Vec F S1024x1x1x256 .f32 :=
  k0_pay3 (k0_pay2 x w0 b0 w1) b1 w2 b2

/-- The rectangle of one element on the second axis, all of the first and the last: where its elements lie. -/
theorem rows_ix {n0 n1 n3 : Nat} (i : Fin n1)
    (inb : ∀ a, (![0, i.val, 0, 0] : Fin 4 → Nat) a + (![n0, 1, 1, n3] : Fin 4 → Nat) a ≤ (![n0, n1, 1, n3] : Fin 4 → Nat) a)
    (z : (⟨4, ![n0, 1, 1, n3]⟩ : Shape).Idx) :
    (Rect.unit (s := ⟨4, ![n0, n1, 1, n3]⟩) ![0, i.val, 0, 0] ![n0, 1, 1, n3] inb).emb z = ix4 (z 0) i 0 (z 3) := by
  have h1 : (z 1).val < 1 := (z 1).isLt
  have h2 : (z 2).val < 1 := (z 2).isLt
  funext a; apply Fin.ext; fin_cases a <;> simp [Rect.emb_apply] <;> first | rfl | omega

/-- The rectangle of one row: where its elements lie. -/
theorem row_ix {n0 n2 : Nat} (i : Fin n0)
    (inb : ∀ a, (![i.val, 0, 0] : Fin 3 → Nat) a + (![1, 1, n2] : Fin 3 → Nat) a ≤ (![n0, 1, n2] : Fin 3 → Nat) a)
    (z : (⟨3, ![1, 1, n2]⟩ : Shape).Idx) :
    (Rect.unit (s := ⟨3, ![n0, 1, n2]⟩) ![i.val, 0, 0] ![1, 1, n2] inb).emb z = ix3 i 0 (z 2) := by
  have h0 : (z 0).val < 1 := (z 0).isLt
  have h1 : (z 1).val < 1 := (z 1).isLt
  funext a; apply Fin.ext; fin_cases a <;> simp [Rect.emb_apply] <;> first | rfl | omega

section Stored

variable (c : Dev nD)

/-- Dropping a leading axis of one element keeps the other coordinates. -/
theorem squeeze_ix {n0 n1 n2 : Nat} (h : (⟨3, ![n0, n1, n2]⟩ : Shape).numel = (⟨4, ![1, n0, n1, n2]⟩ : Shape).numel) (i : Fin n0) (p : Fin n1) (q : Fin n2) :
    Shape.reshapeEquiv h (ix3 i p q) = ix4 (0 : Fin 1) i p q :=
  Shape.reshapeEquiv_eq_of_rowMajor h (by
    rw [rowMajor_val4 _ (n0 * (n1 * n2)) (n1 * n2) n2 rfl rfl rfl, rowMajor_val3 _ (n1 * n2) n2 rfl rfl]; simp)

/-- The rectangle of one element on the two leading axes, all of the other two: where its elements lie. -/
theorem pick_ix {n0 n1 n2 n3 : Nat} (s : Fin n0) (i : Fin n1)
    (inb : ∀ a, (![s.val, i.val, 0, 0] : Fin 4 → Nat) a + (![1, 1, n2, n3] : Fin 4 → Nat) a ≤ (![n0, n1, n2, n3] : Fin 4 → Nat) a)
    (z : (⟨4, ![1, 1, n2, n3]⟩ : Shape).Idx) :
    (Rect.unit (s := ⟨4, ![n0, n1, n2, n3]⟩) ![s.val, i.val, 0, 0] ![1, 1, n2, n3] inb).emb z = ix4 s i (z 2) (z 3) := by
  have h0 : (z 0).val < 1 := (z 0).isLt
  have h1 : (z 1).val < 1 := (z 1).isLt
  funext a; apply Fin.ext; fin_cases a <;> simp [Rect.emb_apply] <;> first | rfl | omega

/-- The rectangle of one element on the leading axis, all of the others: where its elements lie. -/
theorem part_ix {n0 n1 n2 n3 : Nat} (s : Fin n0)
    (inb : ∀ a, (![s.val, 0, 0, 0] : Fin 4 → Nat) a + (![1, n1, n2, n3] : Fin 4 → Nat) a ≤ (![n0, n1, n2, n3] : Fin 4 → Nat) a)
    (i : Fin n1) (p : Fin n2) (q : Fin n3) :
    (Rect.unit (s := ⟨4, ![n0, n1, n2, n3]⟩) ![s.val, 0, 0, 0] ![1, n1, n2, n3] inb).emb (ix4 0 i p q) = ix4 s i p q := by
  funext a; apply Fin.ext; fin_cases a <;> simp [Rect.emb_apply]

/-- The rectangle of four elements on the leading axis, all of the others: where its elements lie. -/
theorem four_ix {n1 n2 : Nat} (b : Fin 32)
    (inb : ∀ a, (![4 * b.val, 0, 0] : Fin 3 → Nat) a + (![4, n1, n2] : Fin 3 → Nat) a ≤ (![128, n1, n2] : Fin 3 → Nat) a)
    (i : Fin 4) (p : Fin n1) (q : Fin n2) :
    (Rect.unit (s := ⟨3, ![128, n1, n2]⟩) ![4 * b.val, 0, 0] ![4, n1, n2] inb).emb (ix3 i p q) = ix3 ⟨4 * b.val + i.val, by omega⟩ p q := by
  funext a; apply Fin.ext; fin_cases a <;> simp [Rect.emb_apply]

/-- If a slot holds a block, variable `i` of the slot is variable `4 b + i` of the array, whatever the array's two other sizes. -/
theorem landed {α : Type} {n2 n3 : Nat} (s : Fin 4) (b : Fin 32) (i : Fin 4) (g : (⟨4, ![4, 4, n2, n3]⟩ : Shape).Idx → α) (W : (⟨3, ![128, n2, n3]⟩ : Shape).Idx → α)
    (inb : ∀ a, (![s.val, i.val, 0, 0] : Fin 4 → Nat) a + (![1, 1, n2, n3] : Fin 4 → Nat) a ≤ (![4, 4, n2, n3] : Fin 4 → Nat) a)
    (inbS : ∀ a, (![s.val, 0, 0, 0] : Fin 4 → Nat) a + (![1, 4, n2, n3] : Fin 4 → Nat) a ≤ (![4, 4, n2, n3] : Fin 4 → Nat) a)
    (inbB : ∀ a, (![4 * b.val, 0, 0] : Fin 3 → Nat) a + (![4, n2, n3] : Fin 3 → Nat) a ≤ (![128, n2, n3] : Fin 3 → Nat) a)
    (hn : (⟨3, ![4, n2, n3]⟩ : Shape).numel = (⟨4, ![1, 4, n2, n3]⟩ : Shape).numel)
    (h : ∀ x, g ((Rect.unit (s := ⟨4, ![4, 4, n2, n3]⟩) ![s.val, 0, 0, 0] ![1, 4, n2, n3] inbS).emb (Shape.reshapeEquiv hn x))
      = W ((Rect.unit (s := ⟨3, ![128, n2, n3]⟩) ![4 * b.val, 0, 0] ![4, n2, n3] inbB).emb x))
    (z : (⟨4, ![1, 1, n2, n3]⟩ : Shape).Idx) :
    g ((Rect.unit (s := ⟨4, ![4, 4, n2, n3]⟩) ![s.val, i.val, 0, 0] ![1, 1, n2, n3] inb).emb z) = W (ix3 ⟨4 * b.val + i.val, by omega⟩ (z 2) (z 3)) :=
  (congrArg g ((pick_ix s i inb z).trans ((congrArg _ (squeeze_ix hn i (z 2) (z 3))).trans (part_ix s inbS i (z 2) (z 3))).symm)).trans
    ((h (ix3 i (z 2) (z 3))).trans (congrArg W (four_ix b inbB i (z 2) (z 3))))

/-- A read of variable `i` of slot `s` of scratch buffer 0, once block `b` landed there, is variable `4 b + i` of the array. -/
theorem land0_apply (W : Contents (F := F) c arr0) (s : Fin 4) (b : Fin 32) (i : Fin 4) (o : Fin 4 → Nat) (f)
    (inb : ∀ a, o a + S1x1x512x256.size a ≤ S4x4x512x256.size a) (ho : o = ![s.val, i.val, 0, 0]) (z : S1x1x512x256.Idx) :
    View.readAt (Elt F) scr0.view (Rect.unit (s := S4x4x512x256) o S1x1x512x256.size inb).toLoadRect (copied c (blk0 b) (slot0 s) W f) z
      = (W : Vec F S128x512x256 .f32) (ix3 ⟨4 * b.val + i.val, by omega⟩ (z 2) (z 3)) := by
  subst ho
  have h : ∀ x, (slot0 s).view.read (Elt F) (copied c (blk0 b) (slot0 s) W f) x = (blk0 b).view.read (Elt F) W x :=
    fun x => congrFun (View.read_writes_whole (slot0 s).view f ((blk0 b).view.read (Elt F) W)) x
  generalize copied c (blk0 b) (slot0 s) W f = g at h ⊢
  exact landed s b i g W inb (slot0_inb s) (blk0_inb b) _ h z

/-- A read of variable `i` of slot `s` of scratch buffer 1, once block `b` landed there, is variable `4 b + i` of the array. -/
theorem land1_apply (W : Contents (F := F) c arr1) (s : Fin 4) (b : Fin 32) (i : Fin 4) (o : Fin 4 → Nat) (f)
    (inb : ∀ a, o a + S1x1x512x512.size a ≤ S4x4x512x512.size a) (ho : o = ![s.val, i.val, 0, 0]) (z : S1x1x512x512.Idx) :
    View.readAt (Elt F) scr1.view (Rect.unit (s := S4x4x512x512) o S1x1x512x512.size inb).toLoadRect (copied c (blk1 b) (slot1 s) W f) z
      = (W : Vec F S128x512x512 .f32) (ix3 ⟨4 * b.val + i.val, by omega⟩ (z 2) (z 3)) := by
  subst ho
  have h : ∀ x, (slot1 s).view.read (Elt F) (copied c (blk1 b) (slot1 s) W f) x = (blk1 b).view.read (Elt F) W x :=
    fun x => congrFun (View.read_writes_whole (slot1 s).view f ((blk1 b).view.read (Elt F) W)) x
  generalize copied c (blk1 b) (slot1 s) W f = g at h ⊢
  exact landed s b i g W inb (slot1_inb s) (blk1_inb b) _ h z

/-- A read of variable `i` of slot `s` of scratch buffer 2, once block `b` landed there, is variable `4 b + i` of the array. -/
theorem land2_apply (W : Contents (F := F) c arr2) (s : Fin 4) (b : Fin 32) (i : Fin 4) (o : Fin 4 → Nat) (f)
    (inb : ∀ a, o a + S1x1x256x512.size a ≤ S4x4x256x512.size a) (ho : o = ![s.val, i.val, 0, 0]) (z : S1x1x256x512.Idx) :
    View.readAt (Elt F) scr2.view (Rect.unit (s := S4x4x256x512) o S1x1x256x512.size inb).toLoadRect (copied c (blk2 b) (slot2 s) W f) z
      = (W : Vec F S128x256x512 .f32) (ix3 ⟨4 * b.val + i.val, by omega⟩ (z 2) (z 3)) := by
  subst ho
  have h : ∀ x, (slot2 s).view.read (Elt F) (copied c (blk2 b) (slot2 s) W f) x = (blk2 b).view.read (Elt F) W x :=
    fun x => congrFun (View.read_writes_whole (slot2 s).view f ((blk2 b).view.read (Elt F) W)) x
  generalize copied c (blk2 b) (slot2 s) W f = g at h ⊢
  exact landed s b i g W inb (slot2_inb s) (blk2_inb b) _ h z

/-- Where the biases of the point's variables lie. -/
theorem reads_bias : ∀ t : Fin grid0.N,
    (k0_off8 (grid0.coords t) 0#32 = ![4 * (Ring.bk 32 t.val).val + 0, 0, 0] ∧ k0_off8 (grid0.coords t) 1#32 = ![4 * (Ring.bk 32 t.val).val + 1, 0, 0]
      ∧ k0_off8 (grid0.coords t) 2#32 = ![4 * (Ring.bk 32 t.val).val + 2, 0, 0] ∧ k0_off8 (grid0.coords t) 3#32 = ![4 * (Ring.bk 32 t.val).val + 3, 0, 0])
    ∧ k0_off11 (grid0.coords t) 0#32 = ![4 * (Ring.bk 32 t.val).val + 0, 0, 0] ∧ k0_off11 (grid0.coords t) 1#32 = ![4 * (Ring.bk 32 t.val).val + 1, 0, 0]
      ∧ k0_off11 (grid0.coords t) 2#32 = ![4 * (Ring.bk 32 t.val).val + 2, 0, 0] ∧ k0_off11 (grid0.coords t) 3#32 = ![4 * (Ring.bk 32 t.val).val + 3, 0, 0] := by
  decide +kernel

/-- Variable `i` of block `b`. -/
def var (b : Fin 32) (i : Fin 4) : Fin 128 := ⟨4 * b.val + i.val, by omega⟩

section Lane

variable (x0 : Vec F S1024x4x1x256 .f32) (x1 : Vec F S128x1x512 .f32) (x2 : Vec F S128x1x512 .f32) (x3 : Vec F S128x1x256 .f32)

/-- What the step computes for one variable, of what it reads at the given places. -/
def lane (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (G0 : Contents (F := F) c scr0) (G1 : Contents (F := F) c scr1) (G2 : Contents (F := F) c scr2)
    (ox : Fin 4 → Nat) (hx : ∀ a, ox a + S1024x1x1x256.size a ≤ S1024x4x1x256.size a)
    (o0 : Fin 4 → Nat) (h0 : ∀ a, o0 a + S1x1x512x256.size a ≤ S4x4x512x256.size a)
    (o1 : Fin 4 → Nat) (h1 : ∀ a, o1 a + S1x1x512x512.size a ≤ S4x4x512x512.size a)
    (o2 : Fin 4 → Nat) (h2 : ∀ a, o2 a + S1x1x256x512.size a ≤ S4x4x256x512.size a)
    (ob : Fin 3 → Nat) (hb : ∀ a, ob a + S1x1x512.size a ≤ S128x1x512.size a)
    (oc : Fin 3 → Nat) (hc : ∀ a, oc a + S1x1x256.size a ≤ S128x1x256.size a) : Vec F S1024x1x1x256 .f32 :=
  layers (View.readAt (Elt F) arg1.view (Rect.unit (s := S1024x4x1x256) ox S1024x1x1x256.size hx).toLoadRect (harg1.unread x0))
    (View.readAt (Elt F) scr0.view (Rect.unit (s := S4x4x512x256) o0 S1x1x512x256.size h0).toLoadRect G0)
    (View.readAt (Elt F) arg2.view (Rect.unit (s := S128x1x512) ob S1x1x512.size hb).toLoadRect (harg2.unread x1))
    (View.readAt (Elt F) scr1.view (Rect.unit (s := S4x4x512x512) o1 S1x1x512x512.size h1).toLoadRect G1)
    (View.readAt (Elt F) arg3.view (Rect.unit (s := S128x1x512) ob S1x1x512.size hb).toLoadRect (harg3.unread x2))
    (View.readAt (Elt F) scr2.view (Rect.unit (s := S4x4x256x512) o2 S1x1x256x512.size h2).toLoadRect G2)
    (View.readAt (Elt F) arg4.view (Rect.unit (s := S128x1x256) oc S1x1x256.size hc).toLoadRect (harg4.unread x3))

variable (W0 : Contents (F := F) c arr0) (W1 : Contents (F := F) c arr1) (W2 : Contents (F := F) c arr2)

/-- What is computed for variable `i` of block `b`: its rows through the three layers, with its own weights and biases. -/
def laneOut (b : Fin 32) (i : Fin 4) : Vec F S1024x1x1x256 .f32 :=
  layers (fun z => x0 (ix4 (z 0) i 0 (z 3)))
    (fun z => (W0 : Vec F S128x512x256 .f32) (ix3 (var b i) (z 2) (z 3))) (fun z => x1 (ix3 (var b i) 0 (z 2)))
    (fun z => (W1 : Vec F S128x512x512 .f32) (ix3 (var b i) (z 2) (z 3))) (fun z => x2 (ix3 (var b i) 0 (z 2)))
    (fun z => (W2 : Vec F S128x256x512 .f32) (ix3 (var b i) (z 2) (z 3))) (fun z => x3 (ix3 (var b i) 0 (z 2)))

/-- What the step computes for a variable, read where that variable lies, is what is computed for it. -/
theorem lane_eq (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (s : Fin 4) (b : Fin 32) (i : Fin 4) (f0 f1 f2)
    (ox : Fin 4 → Nat) (hx) (o0 : Fin 4 → Nat) (h0) (o1 : Fin 4 → Nat) (h1) (o2 : Fin 4 → Nat) (h2) (ob : Fin 3 → Nat) (hb) (oc : Fin 3 → Nat) (hc)
    (ex : ox = ![0, i.val, 0, 0]) (e0 : o0 = ![s.val, i.val, 0, 0]) (e1 : o1 = ![s.val, i.val, 0, 0]) (e2 : o2 = ![s.val, i.val, 0, 0])
    (eb : ob = ![4 * b.val + i.val, 0, 0]) (ec : oc = ![4 * b.val + i.val, 0, 0]) :
    lane c x0 x1 x2 x3 arg1 harg1 arg2 harg2 arg3 harg3 arg4 harg4 (copied c (blk0 b) (slot0 s) W0 f0) (copied c (blk1 b) (slot1 s) W1 f1)
        (copied c (blk2 b) (slot2 s) W2 f2) ox hx o0 h0 o1 h1 o2 h2 ob hb oc hc
      = laneOut c x0 x1 x2 x3 W0 W1 W2 b i := by
  unfold lane laneOut
  have q0 := land0_apply c W0 s b i o0 f0 h0 e0
  have q1 := land1_apply c W1 s b i o1 f1 h1 e1
  have q2 := land2_apply c W2 s b i o2 f2 h2 e2
  rw [funext q0, funext q1, funext q2]
  clear q0 q1 q2
  subst ex eb ec
  congr 1
  · funext z
    rw [harg1.readAt_unread]
    exact congrArg x0 (rows_ix i hx z)
  · funext z
    rw [harg2.readAt_unread]
    exact congrArg x1 (row_ix (var b i) hb z)
  · funext z
    rw [harg3.readAt_unread]
    exact congrArg x2 (row_ix (var b i) hb z)
  · funext z
    rw [harg4.readAt_unread]
    exact congrArg x3 (row_ix (var b i) hc z)

/-- What a grid point stores: each variable of the block in its place. -/
def blockOut (b : Fin 32) : Vec F S1024x4x1x256 .f32 := fun y => laneOut c x0 x1 x2 x3 W0 W1 W2 b (y 1) (ix4 (y 0) 0 0 (y 3))

end Lane

/-- Four stored pieces, one per variable. -/
def stored (p0 p1 p2 p3 : Vec F S1024x1x1x256 .f32) : List (View.Piece (Elt F) S1024x4x1x256 .f32) :=
  [⟨Rect.unit (s := S1024x4x1x256) ![0, 3, 0, 0] S1024x1x1x256.size (by decide), p3⟩, ⟨Rect.unit (s := S1024x4x1x256) ![0, 2, 0, 0] S1024x1x1x256.size (by decide), p2⟩,
    ⟨Rect.unit (s := S1024x4x1x256) ![0, 1, 0, 0] S1024x1x1x256.size (by decide), p1⟩, ⟨Rect.unit (s := S1024x4x1x256) ![0, 0, 0, 0] S1024x1x1x256.size (by decide), p0⟩]

/-- Piece `i`, at its own index, is the block at that index. -/
theorem piece_ix (P : Fin 4 → Vec F S1024x1x1x256 .f32) (i : Fin 4) (inb) (x : S1024x1x1x256.Idx) :
    P i x = (fun y : S1024x4x1x256.Idx => P (y 1) (ix4 (y 0) 0 0 (y 3)))
      ((Rect.unit (s := S1024x4x1x256) ![0, i.val, 0, 0] S1024x1x1x256.size inb).emb x) := by
  refine Eq.trans ?_ (congrArg (fun y : S1024x4x1x256.Idx => P (y 1) (ix4 (y 0) 0 0 (y 3))) (rows_ix i inb x)).symm
  refine congrArg (P i) ?_
  have h1 : (x 1).val < 1 := (x 1).isLt
  have h2 : (x 2).val < 1 := (x 2).isLt
  funext a; apply Fin.ext; fin_cases a <;> simp <;> omega

/-- Four stored pieces read back as one block: variable `i` reads piece `i`. -/
theorem read_stored (arg8 : Memref sig .tc .vmem S1024x4x1x256 .f32) (f) (P : Fin 4 → Vec F S1024x1x1x256 .f32) :
    arg8.view.read (Elt F) (arg8.view.writes (Elt F) f (stored (P 0) (P 1) (P 2) (P 3))) = fun y => P (y 1) (ix4 (y 0) 0 0 (y 3)) := by
  funext y
  refine View.read_writes_apply_of_pieces _ _ (fun y => P (y 1) (ix4 (y 0) 0 0 (y 3))) _ ?_ y
    (View.cover_of_tiledL (s := S1024x4x1x256) (stored (P 0) (P 1) (P 2) (P 3)) S1024x1x1x256.size (by sl_kernel_rfl) y)
  intro p hp x
  simp only [stored, List.mem_cons, List.mem_nil_iff, or_false] at hp
  rcases hp with rfl | rfl | rfl | rfl
  · exact piece_ix P 3 (by decide) x
  · exact piece_ix P 2 (by decide) x
  · exact piece_ix P 1 (by decide) x
  · exact piece_ix P 0 (by decide) x

section Steps

variable (t : Fin cfg0.N)
    (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (arg8 : Memref sig .tc .vmem S1024x4x1x256 .f32) (harg8 : arg8.IsWhole)
    (x0 : Vec F S1024x4x1x256 .f32) (x1 : Vec F S128x1x512 .f32) (x2 : Vec F S128x1x512 .f32) (x3 : Vec F S128x1x256 .f32)
    (W0 : Contents (F := F) c arr0) (W1 : Contents (F := F) c arr1) (W2 : Contents (F := F) c arr2)

/-- The pieces of a step, computed from the scratch buffers' contents `G0`, `G1`, `G2`. -/
def pieces (G0 : Contents (F := F) c scr0) (G1 : Contents (F := F) c scr1) (G2 : Contents (F := F) c scr2) : List (View.Piece (Elt F) S1024x4x1x256 .f32) :=
  stored
    (lane c x0 x1 x2 x3 arg1 harg1 arg2 harg2 arg3 harg3 arg4 harg4 G0 G1 G2 ![0, 0, 0, 0] (by decide) (k0_off7 (grid0.coords t)) (k0_off7_inb (grid0.coords t))
      (k0_off9 (grid0.coords t)) (k0_off9_inb (grid0.coords t)) (k0_off10 (grid0.coords t)) (k0_off10_inb (grid0.coords t))
      (k0_off8 (grid0.coords t) 0#32) (k0_off8_inb (grid0.coords t) 0) (k0_off11 (grid0.coords t) 0#32) (k0_off11_inb (grid0.coords t) 0))
    (lane c x0 x1 x2 x3 arg1 harg1 arg2 harg2 arg3 harg3 arg4 harg4 G0 G1 G2 ![0, 1, 0, 0] (by decide) (k0_off12 (grid0.coords t)) (k0_off12_inb (grid0.coords t))
      (k0_off13 (grid0.coords t)) (k0_off13_inb (grid0.coords t)) (k0_off14 (grid0.coords t)) (k0_off14_inb (grid0.coords t))
      (k0_off8 (grid0.coords t) 1#32) (k0_off8_inb (grid0.coords t) 1) (k0_off11 (grid0.coords t) 1#32) (k0_off11_inb (grid0.coords t) 1))
    (lane c x0 x1 x2 x3 arg1 harg1 arg2 harg2 arg3 harg3 arg4 harg4 G0 G1 G2 ![0, 2, 0, 0] (by decide) (k0_off15 (grid0.coords t)) (k0_off15_inb (grid0.coords t))
      (k0_off16 (grid0.coords t)) (k0_off16_inb (grid0.coords t)) (k0_off17 (grid0.coords t)) (k0_off17_inb (grid0.coords t))
      (k0_off8 (grid0.coords t) 2#32) (k0_off8_inb (grid0.coords t) 2) (k0_off11 (grid0.coords t) 2#32) (k0_off11_inb (grid0.coords t) 2))
    (lane c x0 x1 x2 x3 arg1 harg1 arg2 harg2 arg3 harg3 arg4 harg4 G0 G1 G2 ![0, 3, 0, 0] (by decide) (k0_off18 (grid0.coords t)) (k0_off18_inb (grid0.coords t))
      (k0_off19 (grid0.coords t)) (k0_off19_inb (grid0.coords t)) (k0_off20 (grid0.coords t)) (k0_off20_inb (grid0.coords t))
      (k0_off8 (grid0.coords t) 3#32) (k0_off8_inb (grid0.coords t) 3) (k0_off11 (grid0.coords t) 3#32) (k0_off11_inb (grid0.coords t) 3))

/-- Once the point's block has landed, the pieces read back as what the point computes. -/
theorem read_pieces (f0 f1 f2) (f) :
    arg8.view.read (Elt F) (arg8.view.writes (Elt F) f (pieces c t arg1 harg1 arg2 harg2 arg3 harg3 arg4 harg4 x0 x1 x2 x3
        (copied c (blk0 (Ring.bk 32 t.val)) (slot0 (Ring.sl 4 t.val)) W0 f0) (copied c (blk1 (Ring.bk 32 t.val)) (slot1 (Ring.sl 4 t.val)) W1 f1)
        (copied c (blk2 (Ring.bk 32 t.val)) (slot2 (Ring.sl 4 t.val)) W2 f2)))
      = blockOut c x0 x1 x2 x3 W0 W1 W2 (Ring.bk 32 t.val) := by
  unfold pieces
  rw [lane_eq c x0 x1 x2 x3 W0 W1 W2 arg1 harg1 arg2 harg2 arg3 harg3 arg4 harg4 (Ring.sl 4 t.val) (Ring.bk 32 t.val) 0 f0 f1 f2 ![0, 0, 0, 0] (by decide)
    (k0_off7 (grid0.coords t)) _ (k0_off9 (grid0.coords t)) _ (k0_off10 (grid0.coords t)) _ (k0_off8 (grid0.coords t) 0#32) _ (k0_off11 (grid0.coords t) 0#32) _
    rfl (reads0 t).1 (reads1 t).1 (reads2 t).1 (reads_bias t).1.1 (reads_bias t).2.1]
  rw [lane_eq c x0 x1 x2 x3 W0 W1 W2 arg1 harg1 arg2 harg2 arg3 harg3 arg4 harg4 (Ring.sl 4 t.val) (Ring.bk 32 t.val) 1 f0 f1 f2 ![0, 1, 0, 0] (by decide)
    (k0_off12 (grid0.coords t)) _ (k0_off13 (grid0.coords t)) _ (k0_off14 (grid0.coords t)) _ (k0_off8 (grid0.coords t) 1#32) _ (k0_off11 (grid0.coords t) 1#32) _
    rfl (reads0 t).2.1 (reads1 t).2.1 (reads2 t).2.1 (reads_bias t).1.2.1 (reads_bias t).2.2.1]
  rw [lane_eq c x0 x1 x2 x3 W0 W1 W2 arg1 harg1 arg2 harg2 arg3 harg3 arg4 harg4 (Ring.sl 4 t.val) (Ring.bk 32 t.val) 2 f0 f1 f2 ![0, 2, 0, 0] (by decide)
    (k0_off15 (grid0.coords t)) _ (k0_off16 (grid0.coords t)) _ (k0_off17 (grid0.coords t)) _ (k0_off8 (grid0.coords t) 2#32) _ (k0_off11 (grid0.coords t) 2#32) _
    rfl (reads0 t).2.2.1 (reads1 t).2.2.1 (reads2 t).2.2.1 (reads_bias t).1.2.2.1 (reads_bias t).2.2.2.1]
  rw [lane_eq c x0 x1 x2 x3 W0 W1 W2 arg1 harg1 arg2 harg2 arg3 harg3 arg4 harg4 (Ring.sl 4 t.val) (Ring.bk 32 t.val) 3 f0 f1 f2 ![0, 3, 0, 0] (by decide)
    (k0_off18 (grid0.coords t)) _ (k0_off19 (grid0.coords t)) _ (k0_off20 (grid0.coords t)) _ (k0_off8 (grid0.coords t) 3#32) _ (k0_off11 (grid0.coords t) 3#32) _
    rfl (reads0 t).2.2.2 (reads1 t).2.2.2 (reads2 t).2.2.2 (reads_bias t).1.2.2.2 (reads_bias t).2.2.2.2]
  exact read_stored arg8 f (laneOut c x0 x1 x2 x3 W0 W1 W2 (Ring.bk 32 t.val))

/-- What the first step stores reads back as what the point computes. -/
theorem read_stepFirst (hc0 : atStart (grid0.coords t)) (hc1 : goesOn (grid0.coords t)) (f) :
    arg8.view.read (Elt F) (arg8.view.writes (Elt F) f (stepFirst c t arg1 harg1 arg2 harg2 arg3 harg3 arg4 harg4 arg8 harg8 hc0 hc1 x0 x1 x2 x3 W0 W1 W2).1)
      = blockOut c x0 x1 x2 x3 W0 W1 W2 (Ring.bk 32 t.val) := by
  have h : (stepFirst c t arg1 harg1 arg2 harg2 arg3 harg3 arg4 harg4 arg8 harg8 hc0 hc1 x0 x1 x2 x3 W0 W1 W2).1
      = pieces c t arg1 harg1 arg2 harg2 arg3 harg3 arg4 harg4 x0 x1 x2 x3
        (copied c (blk0 (Ring.bk 32 t.val)) (slot0 (Ring.sl 4 t.val)) W0 (slot0 (Ring.sl 4 t.val)).view.junk)
        (copied c (blk1 (Ring.bk 32 t.val)) (slot1 (Ring.sl 4 t.val)) W1 (slot1 (Ring.sl 4 t.val)).view.junk)
        (copied c (blk2 (Ring.bk 32 t.val)) (slot2 (Ring.sl 4 t.val)) W2 (slot2 (Ring.sl 4 t.val)).view.junk) := by
    rfl
  rw [h]
  exact read_pieces c t arg1 harg1 arg2 harg2 arg3 harg3 arg4 harg4 arg8 x0 x1 x2 x3 W0 W1 W2 _ _ _ f

/-- What a middle step stores reads back as what the point computes. -/
theorem read_stepMiddle (hc0 : ¬atStart (grid0.coords t)) (hc1 : goesOn (grid0.coords t)) (f) :
    arg8.view.read (Elt F) (arg8.view.writes (Elt F) f (stepMiddle c t arg1 harg1 arg2 harg2 arg3 harg3 arg4 harg4 arg8 harg8 hc0 hc1 x0 x1 x2 x3 W0 W1 W2).1)
      = blockOut c x0 x1 x2 x3 W0 W1 W2 (Ring.bk 32 t.val) := by
  have h : (stepMiddle c t arg1 harg1 arg2 harg2 arg3 harg3 arg4 harg4 arg8 harg8 hc0 hc1 x0 x1 x2 x3 W0 W1 W2).1
      = pieces c t arg1 harg1 arg2 harg2 arg3 harg3 arg4 harg4 x0 x1 x2 x3
        (copied c (blk0 (Ring.bk 32 t.val)) (slot0 (Ring.sl 4 t.val)) W0 (slot0 (Ring.sl 4 t.val)).view.junk)
        (copied c (blk1 (Ring.bk 32 t.val)) (slot1 (Ring.sl 4 t.val)) W1 (slot1 (Ring.sl 4 t.val)).view.junk)
        (copied c (blk2 (Ring.bk 32 t.val)) (slot2 (Ring.sl 4 t.val)) W2 (slot2 (Ring.sl 4 t.val)).view.junk) := by
    rfl
  rw [h]
  exact read_pieces c t arg1 harg1 arg2 harg2 arg3 harg3 arg4 harg4 arg8 x0 x1 x2 x3 W0 W1 W2 _ _ _ f

/-- What a late step stores reads back as what the point computes. -/
theorem read_stepLate (hc0 : ¬atStart (grid0.coords t)) (hc1 : ¬goesOn (grid0.coords t)) (f) :
    arg8.view.read (Elt F) (arg8.view.writes (Elt F) f (stepLate c t arg1 harg1 arg2 harg2 arg3 harg3 arg4 harg4 arg8 harg8 hc0 hc1 x0 x1 x2 x3 W0 W1 W2).1)
      = blockOut c x0 x1 x2 x3 W0 W1 W2 (Ring.bk 32 t.val) := by
  have h : (stepLate c t arg1 harg1 arg2 harg2 arg3 harg3 arg4 harg4 arg8 harg8 hc0 hc1 x0 x1 x2 x3 W0 W1 W2).1
      = pieces c t arg1 harg1 arg2 harg2 arg3 harg3 arg4 harg4 x0 x1 x2 x3
        (copied c (blk0 (Ring.bk 32 t.val)) (slot0 (Ring.sl 4 t.val)) W0 (slot0 (Ring.sl 4 t.val)).view.junk)
        (copied c (blk1 (Ring.bk 32 t.val)) (slot1 (Ring.sl 4 t.val)) W1 (slot1 (Ring.sl 4 t.val)).view.junk)
        (copied c (blk2 (Ring.bk 32 t.val)) (slot2 (Ring.sl 4 t.val)) W2 (slot2 (Ring.sl 4 t.val)).view.junk) := by
    rfl
  rw [h]
  exact read_pieces c t arg1 harg1 arg2 harg2 arg3 harg3 arg4 harg4 arg8 x0 x1 x2 x3 W0 W1 W2 _ _ _ f

end Steps

end Stored

end Cert.KernelIdeal.Mlp

end
-- ==== Proof.Step.lean ====
module

public import proofs.«01_k».proof.Proof.Block

/-!
# One step of the kernel

The three kinds of step, put together: at any grid point, from the input blocks and the slots as they are before the
point's step, the body runs to the same inputs, the output block at what the point computes, and the slots as they are
before the next step.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

section Streams

variable (W0 : Contents (F := F) c arr0) (W1 : Contents (F := F) c arr1) (W2 : Contents (F := F) c arr2)

/-- The slots of the three arrays before step `k`. -/
def streams (k : ℕ) : sProp 𝕄 :=
  iprop(slotsAt (going0 c W0) (free0 c W0) k ∗ slotsAt (going1 c W1) (free1 c W1) k ∗ slotsAt (going2 c W2) (free2 c W2) k)

omit [FloatOps F] in
/-- The block started at step `k` is block `k + 4`, in the slot step `k` has read. -/
theorem sent0_going (k : ℕ) : (sent0 c W0 (Ring.sl 4 k) (Ring.bk 32 (k + 4)) (eighth (k + 4)) (eighth k) : sProp 𝕄) ⊢ going0 c W0 (k + 4) := by
  unfold going0; rw [slot_add_four, eighth_add_eight]
omit [FloatOps F] in
theorem sent1_going (k : ℕ) : (sent1 c W1 (Ring.sl 4 k) (Ring.bk 32 (k + 4)) (eighth (k + 4)) (eighth k) : sProp 𝕄) ⊢ going1 c W1 (k + 4) := by
  unfold going1; rw [slot_add_four, eighth_add_eight]
omit [FloatOps F] in
theorem sent2_going (k : ℕ) : (sent2 c W2 (Ring.sl 4 k) (Ring.bk 32 (k + 4)) (eighth (k + 4)) (eighth k) : sProp 𝕄) ⊢ going2 c W2 (k + 4) := by
  unfold going2; rw [slot_add_four, eighth_add_eight]

/-- The slots of one array at the first step, named by block number. -/
theorem slotsAt_first {M : Type _} [URA M] (going : ℕ → sProp M) (free : Fin 4 → sProp M) {k : ℕ} (h : k = 0) :
    slotsAt going free k = iprop(free (Ring.sl 4 k) ∗ free (Ring.sl 4 (k + 1)) ∗ free (Ring.sl 4 (k + 2)) ∗ free (Ring.sl 4 (k + 3))) := by
  subst h; rfl

/-- A step that starts the next block leaves the slots ready for the next step, -/
theorem slotsAt_more {M : Type _} [URA M] (going : ℕ → sProp M) (free : Fin 4 → sProp M) {k : ℕ} (h : k < 28) :
    iprop(going (k + 4) ∗ later going free k) ⊢ slotsAt going free (k + 1) := by
  have e := slotsAt_next going free k
  rw [role_going going free (show k + 4 < 32 by omega)] at e
  exact e

/-- and so does one past the last start. -/
theorem slotsAt_done {M : Type _} [URA M] (going : ℕ → sProp M) (free : Fin 4 → sProp M) {k : ℕ} (h : 28 ≤ k) :
    iprop(free (Ring.sl 4 k) ∗ later going free k) ⊢ slotsAt going free (k + 1) := by
  have e := slotsAt_next going free k
  rw [role_free going free (show 32 ≤ k + 4 by omega), slot_add_four] at e
  exact e

end Streams

section Step

variable (t : Fin cfg0.N)
    (arg1 : Memref sig .tc .vmem S1024x4x1x256 .f32) (harg1 : arg1.IsWhole) (arg2 : Memref sig .tc .vmem S128x1x512 .f32) (harg2 : arg2.IsWhole)
    (arg3 : Memref sig .tc .vmem S128x1x512 .f32) (harg3 : arg3.IsWhole) (arg4 : Memref sig .tc .vmem S128x1x256 .f32) (harg4 : arg4.IsWhole)
    (arg8 : Memref sig .tc .vmem S1024x4x1x256 .f32) (harg8 : arg8.IsWhole)
    (x0 : Vec F S1024x4x1x256 .f32) (x1 : Vec F S128x1x512 .f32) (x2 : Vec F S128x1x512 .f32) (x3 : Vec F S128x1x256 .f32)
    (W0 : Contents (F := F) c arr0) (W1 : Contents (F := F) c arr1) (W2 : Contents (F := F) c arr2)

/-- The output block at stored pieces is the output block at what they read back as. -/
theorem owns_of_pieces {arg8 : Memref sig .tc .vmem S1024x4x1x256 .f32} {L : List (View.Piece (Elt F) S1024x4x1x256 .f32)} {v : Vec F S1024x4x1x256 .f32}
    (h : ∀ f, arg8.view.read (Elt F) (arg8.view.writes (Elt F) f L) = v) :
    (iprop(∃ f, arg8.view.loc (c : Thread nD τ) ↦[arg8.view.set]{fullShare} arg8.view.writes (Elt F) f L) : sProp 𝕄) ⊢ owns (c : Thread nD τ) arg8 fullShare v := by
  iintro ⟨%f, H⟩
  unfold owns; iexists _; isplitr
  swap; · iexact H
  ipureintro; exact h f

set_option maxHeartbeats 2400000 in
/-- The body at any point: whatever follows (`K`) from the inputs, the output block and the slots after the step, the body gives. -/
theorem step_runs (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg8 fullShare d) ∗ streams c W0 W1 W2 t.val ∗ (∃ W, owes (c : Thread nD τ) 0 W)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (blockOut c x0 x1 x2 x3 W0 W1 W2 (Ring.bk 32 t.val)) ∗ streams c W0 W1 W2 (t.val + 1) ∗ (∃ W, owes (c : Thread nD τ) 0 W)) -∗ K ⟨⟩))
      ⊢ wp frame (wpE (defs₀ (F := F)) Variants.none c none) Set.univ
          (cc0__mlp_kernel (grid0.coords t) arg1 harg1 arg2 harg2 arg3 harg3 arg4 harg4 (Memref.whole main_arg1) (Memref.isWhole_whole _) (Memref.whole main_arg3) (Memref.isWhole_whole _) (Memref.whole main_arg5) (Memref.isWhole_whole _) arg8 harg8 scr0 (Memref.isWhole_whole _) scr1 (Memref.isWhole_whole _) scr2 (Memref.isWhole_whole _) cc0_scratch3) K := by
  have hN : t.val < 32 := lt_of_lt_of_eq t.isLt (show cfg0.N = 32 from N_0)
  unfold streams
  by_cases h0 : t.val = 0
  · have c0 : atStart (grid0.coords t) := (atStart_iff t).mpr h0
    have c1 : goesOn (grid0.coords t) := (goesOn_iff t).mpr (by omega)
    simp only [slotsAt_first _ _ h0, slotsAt_one _ _ h0]
    iintro ⟨H0, H1, H2, H3, H4, ⟨⟨A0, B0, C0, D0⟩, ⟨A1, B1, C1, D1⟩, ⟨A2, B2, C2, D2⟩⟩, ⟨%W, HW⟩, Hk⟩
    iapply ((stepFirst c t arg1 harg1 arg2 harg2 arg3 harg3 arg4 harg4 arg8 harg8 c0 c1 x0 x1 x2 x3 W0 W1 W2).2 W _)
    isplitl [H0]; · iexact H0
    isplitl [H1]; · iexact H1
    isplitl [H2]; · iexact H2
    isplitl [H3]; · iexact H3
    isplitl [H4]; · iexact H4
    isplitl [A0]; · iexact A0
    isplitl [B0]; · iexact B0
    isplitl [C0]; · iexact C0
    isplitl [D0]; · iexact D0
    isplitl [A1]; · iexact A1
    isplitl [B1]; · iexact B1
    isplitl [C1]; · iexact C1
    isplitl [D1]; · iexact D1
    isplitl [A2]; · iexact A2
    isplitl [B2]; · iexact B2
    isplitl [C2]; · iexact C2
    isplitl [D2]; · iexact D2
    isplitl [HW]; · iexact HW
    iintro ⟨H0, H1, H2, H3, H4, A0, B0, C0, D0, A1, B1, C1, D1, A2, B2, C2, D2, HW⟩
    iapply Hk
    isplitl [H0]; · iexact H0
    isplitl [H1]; · iexact H1
    isplitl [H2]; · iexact H2
    isplitl [H3]; · iexact H3
    isplitl [H4]
    · iapply (owns_of_pieces c (read_stepFirst c t arg1 harg1 arg2 harg2 arg3 harg3 arg4 harg4 arg8 harg8 x0 x1 x2 x3 W0 W1 W2 c0 c1)); iexact H4
    isplitr [HW]
    · isplitl [A0 B0 C0 D0]
      · isplitl [A0]; · iexact A0
        isplitl [B0]; · iexact B0
        isplitl [C0]; · iexact C0
        iapply (sent0_going c W0 t.val); iexact D0
      isplitl [A1 B1 C1 D1]
      · isplitl [A1]; · iexact A1
        isplitl [B1]; · iexact B1
        isplitl [C1]; · iexact C1
        iapply (sent1_going c W1 t.val); iexact D1
      isplitl [A2]; · iexact A2
      isplitl [B2]; · iexact B2
      isplitl [C2]; · iexact C2
      iapply (sent2_going c W2 t.val); iexact D2
    iexact HW
  have c0 : ¬atStart (grid0.coords t) := fun h => h0 ((atStart_iff t).mp h)
  simp only [slotsAt_here _ _ (show 1 ≤ t.val by omega) hN]
  by_cases h1 : t.val < 28
  · have c1 : goesOn (grid0.coords t) := (goesOn_iff t).mpr h1
    iintro ⟨H0, H1, H2, H3, H4, ⟨⟨A0, L0⟩, ⟨A1, L1⟩, ⟨A2, L2⟩⟩, ⟨%W, HW⟩, Hk⟩
    iapply ((stepMiddle c t arg1 harg1 arg2 harg2 arg3 harg3 arg4 harg4 arg8 harg8 c0 c1 x0 x1 x2 x3 W0 W1 W2).2 W _)
    isplitl [H0]; · iexact H0
    isplitl [H1]; · iexact H1
    isplitl [H2]; · iexact H2
    isplitl [H3]; · iexact H3
    isplitl [H4]; · iexact H4
    isplitl [A0]; · iexact A0
    isplitl [A1]; · iexact A1
    isplitl [A2]; · iexact A2
    isplitl [HW]; · iexact HW
    iintro ⟨H0, H1, H2, H3, H4, A0, A1, A2, HW⟩
    iapply Hk
    isplitl [H0]; · iexact H0
    isplitl [H1]; · iexact H1
    isplitl [H2]; · iexact H2
    isplitl [H3]; · iexact H3
    isplitl [H4]
    · iapply (owns_of_pieces c (read_stepMiddle c t arg1 harg1 arg2 harg2 arg3 harg3 arg4 harg4 arg8 harg8 x0 x1 x2 x3 W0 W1 W2 c0 c1)); iexact H4
    isplitr [HW]
    · isplitl [A0 L0]
      · iapply (slotsAt_more _ _ h1); isplitl [A0]; · iapply (sent0_going c W0 t.val); iexact A0
        iexact L0
      isplitl [A1 L1]
      · iapply (slotsAt_more _ _ h1); isplitl [A1]; · iapply (sent1_going c W1 t.val); iexact A1
        iexact L1
      iapply (slotsAt_more _ _ h1); isplitl [A2]; · iapply (sent2_going c W2 t.val); iexact A2
      iexact L2
    iexact HW
  · have c1 : ¬goesOn (grid0.coords t) := fun h => h1 ((goesOn_iff t).mp h)
    iintro ⟨H0, H1, H2, H3, H4, ⟨⟨A0, L0⟩, ⟨A1, L1⟩, ⟨A2, L2⟩⟩, ⟨%W, HW⟩, Hk⟩
    iapply ((stepLate c t arg1 harg1 arg2 harg2 arg3 harg3 arg4 harg4 arg8 harg8 c0 c1 x0 x1 x2 x3 W0 W1 W2).2 W _)
    isplitl [H0]; · iexact H0
    isplitl [H1]; · iexact H1
    isplitl [H2]; · iexact H2
    isplitl [H3]; · iexact H3
    isplitl [H4]; · iexact H4
    isplitl [A0]; · iexact A0
    isplitl [A1]; · iexact A1
    isplitl [A2]; · iexact A2
    isplitl [HW]; · iexact HW
    iintro ⟨H0, H1, H2, H3, H4, A0, A1, A2, HW⟩
    iapply Hk
    isplitl [H0]; · iexact H0
    isplitl [H1]; · iexact H1
    isplitl [H2]; · iexact H2
    isplitl [H3]; · iexact H3
    isplitl [H4]
    · iapply (owns_of_pieces c (read_stepLate c t arg1 harg1 arg2 harg2 arg3 harg3 arg4 harg4 arg8 harg8 x0 x1 x2 x3 W0 W1 W2 c0 c1)); iexact H4
    isplitr [HW]
    · isplitl [A0 L0]
      · iapply (slotsAt_done _ _ (show 28 ≤ t.val by omega)); isplitl [A0]; · iexact A0
        iexact L0
      isplitl [A1 L1]
      · iapply (slotsAt_done _ _ (show 28 ≤ t.val by omega)); isplitl [A1]; · iexact A1
        iexact L1
      iapply (slotsAt_done _ _ (show 28 ≤ t.val by omega)); isplitl [A2]; · iexact A2
      iexact L2
    iexact HW

end Step

end Cert.KernelIdeal.Mlp

end
-- ==== Proof.Launch.lean ====
module

public import proofs.«01_k».proof.Proof.Deal
public import proofs.«01_k».proof.Proof.Step
public import proofs.«01_k».proof.Proof.Gen.KernelIdeal.Frame

/-!
# The kernel's launch

The run of the whole program from any memory: the four host reshapes, the region with its thirty-two points, the host
reshape of the result. The region's invariant is the picture of the slots; what a point leaves in the output block is what
the point computes.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region is handed -/

/-- The semaphores of the kernel's own copies, by slot and array. -/
abbrev bells : Fin 12 → SemLoc sig := fun j =>
  (![SemLoc.dma 7, SemLoc.dma 8, SemLoc.dma 9, SemLoc.dma 10, SemLoc.dma 11, SemLoc.dma 12, SemLoc.dma 13, SemLoc.dma 14, SemLoc.dma 15,
    SemLoc.dma 16, SemLoc.dma 17, SemLoc.dma 18] : Fin 12 → SemLoc sig) j
theorem bells_own : Pipeline.OwnSemFacts spec0 bells := by decide

/-- The pool's numbers of the semaphores. -/
theorem bell_number : ∀ (s : Fin 4) (j : Fin 3), bellAt s j = bells ⟨3 * s.val + j.val, by omega⟩ := by decide

/-- The arrays left in place for the kernel to copy from. -/
def weights : Finset (Ref sig .tc) := {main_arg1, main_arg3, main_arg5}
theorem weights_rest : weights ⊆ Pipeline.restRefs sig spec0 := by decide

/-- The host lines after the region leave the weights alone. -/
theorem later_lines : ∀ ops ∈ ([hostOps1] : List (List (HloOp τ sig (Elt F)))), ∀ op ∈ ops,
    op.bufs ⊆ Pipeline.tailRefsBut sig Pipeline.Prefetch.none spec0 weights := by
  intro ops hops op hop
  obtain rfl := List.mem_singleton.mp hops
  refine Pipeline.sub_tailRefsBut Pipeline.Prefetch.none spec0 weights op ((List.forall_iff_forall_mem.mp hostOps1_sub) op hop) (fun j => j.elim0) ?_
  obtain rfl := List.mem_singleton.mp hop
  intro b hb
  simp only [weights, Finset.mem_insert, Finset.mem_singleton] at hb
  rcases hb with rfl | rfl | rfl <;> simp only [StableHlo.reshape_bufs, Finset.mem_insert, Finset.mem_singleton, not_or] <;> and_intros <;>
    exact StableHlo.devRef_ne_of_ne (by decide)

/-- What the launch hands the region: the scratch buffers, the generator register, the semaphores at zero and the weights. -/
theorem handed (c : Dev nD) :
    (Pipeline.ΦD bells spec0 weights (V m) c : sProp 𝕄)
      = iprop(((∃ d, (c : Thread nD τ).loc cc0_scratch0 ↦{fullShare} d) ∗ (∃ d, (c : Thread nD τ).loc cc0_scratch1 ↦{fullShare} d) ∗ (∃ d, (c : Thread nD τ).loc cc0_scratch2 ↦{fullShare} d))
          ∗ (∃ r, prngReg c r)
          ∗ (semVal ((c : Thread nD τ), bellAt 0 0) 0 ∗ semVal ((c : Thread nD τ), bellAt 0 1) 0 ∗ semVal ((c : Thread nD τ), bellAt 0 2) 0
            ∗ semVal ((c : Thread nD τ), bellAt 1 0) 0 ∗ semVal ((c : Thread nD τ), bellAt 1 1) 0 ∗ semVal ((c : Thread nD τ), bellAt 1 2) 0
            ∗ semVal ((c : Thread nD τ), bellAt 2 0) 0 ∗ semVal ((c : Thread nD τ), bellAt 2 1) 0 ∗ semVal ((c : Thread nD τ), bellAt 2 2) 0
            ∗ semVal ((c : Thread nD τ), bellAt 3 0) 0 ∗ semVal ((c : Thread nD τ), bellAt 3 1) 0 ∗ semVal ((c : Thread nD τ), bellAt 3 2) 0)
          ∗ (((c : Thread nD τ).loc main_arg1 ↦{fullShare} V m c main_arg1) ∗ ((c : Thread nD τ).loc main_arg3 ↦{fullShare} V m c main_arg3)
            ∗ ((c : Thread nD τ).loc main_arg5 ↦{fullShare} V m c main_arg5))) := by
  have hs : (Pipeline.ownSems0 (Ix := Unit) (Name := ℕ) (U := Pipeline.UD sig nD τ) (Lvl := ℕ) (Val := Elt F) (τ := τ) bells c : sProp 𝕄) = _ :=
    Pipeline.ownSems0_eq_of_list c bells [0, 1, 2, 3, 4, 5, 6, 7, 8, 9, 10, 11] (by decide) (by decide)
  have hw : (bigSep weights (fun b => ((c : Thread nD τ).loc b) ↦{fullShare} V m c b) : sProp 𝕄) = _ :=
    BI.bigSep_eq_bigSepL_of_eq (S := weights) [main_arg1, main_arg3, main_arg5] (by decide) (by decide) _
  rw [Pipeline.ΦD_eq, scopedRest0_eq, hs, hw]
  simp only [bell_number]
  rfl

/-! ## The proof data -/

/-- What each point finds and leaves: inputs their blocks, the output what the point computes; between points, the slots. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut c (iblk m c 0 t) (iblk m c 1 t) (iblk m c 2 t) (iblk m c 3 t) (V m c main_arg1) (V m c main_arg3) (V m c main_arg5) (Ring.bk 32 t.val)
  Φ t := iprop((∃ r, prngReg c r) ∗ streams c (V m c main_arg1) (V m c main_arg3) (V m c main_arg5) t.val)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = blockOut c (iblk m c 0 t) (iblk m c 1 t) (iblk m c 2 t) (iblk m c 3 t) (V m c main_arg1) (V m c main_arg3) (V m c main_arg5) (Ring.bk 32 t.val) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-! ## The body at a point -/

/-- The body's triple at a point, window by window. -/
theorem body_runs (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      (iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)) : sProp 𝕄)) := by
  simp only [before_0, before_1, before_2, before_3]
  rw [after_0, after_1, after_2, after_3, after_4]
  have e0 : (dats m 0 c).Φ t.castSucc = iprop((∃ r, prngReg c r) ∗ streams c (V m c main_arg1) (V m c main_arg3) (V m c main_arg5) t.val) := rfl
  have e1 : (dats m 0 c).Φ t.succ = iprop((∃ r, prngReg c r) ∗ streams c (V m c main_arg1) (V m c main_arg3) (V m c main_arg5) (t.val + 1)) := rfl
  rw [e0, e1]
  unfold Dat.owesAt Pipeline.owesWithin
  rw [show (dats m 0 c).owed t.castSucc = 0 from rfl, show (dats m 0 c).owed t.succ = 0 from rfl]
  iintro ⟨⟨Hg, HS⟩, ⟨%W, -, HW⟩, ⟨%d0, H0⟩, ⟨%d1, H1⟩, ⟨%d2, H2⟩, ⟨%d3, H3⟩, ⟨%d4, H4⟩⟩
  iapply (step_runs c t _ _ _ _ _ _ _ _ _ _ (iblk m c 0 t) (iblk m c 1 t) (iblk m c 2 t) (iblk m c 3 t) (V m c main_arg1) (V m c main_arg3) (V m c main_arg5) _)
  isplitl [H0]; · iexact H0
  isplitl [H1]; · iexact H1
  isplitl [H2]; · iexact H2
  isplitl [H3]; · iexact H3
  isplitl [H4]; · iexists _; iexact H4
  isplitl [HS]; · iexact HS
  isplitl [HW]; · iexists W; iexact HW
  iintro ⟨H0, H1, H2, H3, H4, HS, ⟨%W', HW⟩⟩
  isplitl [Hg HS]
  · isplitl [Hg]; · iexact Hg
    iexact HS
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

/-- The body table's row at a point is the body called there. -/
theorem row_at (t : Fin cfg0.N) : defs₀ (F := F) .tc cfg0.body (cfg0.bodyArgs t (cfg0.slots t)) = bodyAt0 t := by
  unfold defs₀; rw [Defs.onTc_tc]

/-- The body at every grid point, as the region's rule asks for it. -/
theorem body_obligation (c : Dev nD) : BodyObligation (dats (F := F) m 0 c) (defs₀ (F := F)) Variants.none () Set.univ := fun t => by
  rw [bigSep_W0, bigSep_W0, row_at]
  exact triple_restated (body_runs m c t) rfl .rfl fun _ => .rfl

/-! ## In and out of the region -/

set_option maxHeartbeats 1000000 in
/-- What the launch hands the region is the slots at rest, -/
theorem enters (c : Dev nD) : Pipeline.ΦD bells spec0 weights (V m) c ⊢ (dats m 0 c).Φ 0 := by
  rw [handed, show (dats m 0 c).Φ 0 = iprop((∃ r, prngReg c r) ∗ streams c (V m c main_arg1) (V m c main_arg3) (V m c main_arg5) 0) from rfl]
  unfold streams
  rw [slotsAt_zero, slotsAt_zero, slotsAt_zero]
  iintro ⟨⟨R0, R1, R2⟩, Hg, ⟨S00, S01, S02, S10, S11, S12, S20, S21, S22, S30, S31, S32⟩, ⟨A0, A1, A2⟩⟩
  isplitl [Hg]; · iexact Hg
  isplitl [R0 S00 S10 S20 S30 A0]
  · iapply (deal0 c (V m c main_arg1)).1
    isplitl [R0]; · iexact R0
    isplitl [S00 S10 S20 S30]
    · isplitl [S00]; · iexact S00
      isplitl [S10]; · iexact S10
      isplitl [S20]; · iexact S20
      iexact S30
    iexact A0
  isplitl [R1 S01 S11 S21 S31 A1]
  · iapply (deal1 c (V m c main_arg3)).1
    isplitl [R1]; · iexact R1
    isplitl [S01 S11 S21 S31]
    · isplitl [S01]; · iexact S01
      isplitl [S11]; · iexact S11
      isplitl [S21]; · iexact S21
      iexact S31
    iexact A1
  iapply (deal2 c (V m c main_arg5)).1
  isplitl [R2]; · iexact R2
  isplitl [S02 S12 S22 S32]
  · isplitl [S02]; · iexact S02
    isplitl [S12]; · iexact S12
    isplitl [S22]; · iexact S22
    iexact S32
  iexact A2

set_option maxHeartbeats 1000000 in
/-- and the slots at rest after the last point are what it takes back. -/
theorem leaves (c : Dev nD) : (dats m 0 c).Φ (Fin.last cfg0.N) ⊢ Pipeline.ΦD bells spec0 weights (V m) c := by
  rw [handed, show (dats m 0 c).Φ (Fin.last cfg0.N) = iprop((∃ r, prngReg c r) ∗ streams c (V m c main_arg1) (V m c main_arg3) (V m c main_arg5) grid0.N) from rfl, N_0]
  unfold streams
  rw [slotsAt_last, slotsAt_last, slotsAt_last]
  iintro ⟨Hg, I0, I1, I2⟩
  ihave J0 := (deal0 c (V m c main_arg1)).2 $$ I0
  icases J0 with ⟨R0, ⟨S00, S10, S20, S30⟩, A0⟩
  ihave J1 := (deal1 c (V m c main_arg3)).2 $$ I1
  icases J1 with ⟨R1, ⟨S01, S11, S21, S31⟩, A1⟩
  ihave J2 := (deal2 c (V m c main_arg5)).2 $$ I2
  icases J2 with ⟨R2, ⟨S02, S12, S22, S32⟩, A2⟩
  isplitl [R0 R1 R2]
  · isplitl [R0]; · iexact R0
    isplitl [R1]; · iexact R1
    iexact R2
  isplitl [Hg]; · iexact Hg
  isplitl [S00 S01 S02 S10 S11 S12 S20 S21 S22 S30 S31 S32]
  · isplitl [S00]; · iexact S00
    isplitl [S01]; · iexact S01
    isplitl [S02]; · iexact S02
    isplitl [S10]; · iexact S10
    isplitl [S11]; · iexact S11
    isplitl [S12]; · iexact S12
    isplitl [S20]; · iexact S20
    isplitl [S21]; · iexact S21
    isplitl [S22]; · iexact S22
    isplitl [S30]; · iexact S30
    isplitl [S31]; · iexact S31
    iexact S32
  isplitl [A0]; · iexact A0
  isplitl [A1]; · iexact A1
  iexact A2

/-! ## The run -/

/-- The host lines, the region, the host line after it. -/
theorem around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What every final state of the program holds: the arrays of the region at what the proof data say, every other buffer as
    the last host line leaves it, and every semaphore at zero. -/
def Final (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
set_option maxHeartbeats 800000 in
theorem runs : θ_run defs (onTc (τ := τ) (main (F := F))) (s₀ m ρ) (Final m) :=
  Pipeline.θ_run_frame_dma_around (Q' := _) cfgs (dats m) (0 : Fin 1) launch0 bells defs₀ Variants.none bells_own weights weights_rest m ρ main
    (hbody := fun c => (body_obligation m c).loose) (hshare := fun c => (dats m 0 c).share_full fun _ => rfl)
    (howed := fun _ _ => rfl) (V₀ := V0 m) (opss := [hostOps1]) (hsub := later_lines) (hfresh := sfx_fresh) (hkeep := sfx_keeps)
    (hmain := around m) (hA := A_eq m) (hin := enters m) (hout := leaves m)

/-- A buffer that no host line writes and that is no array of the region ends as launched. -/
theorem kept (c : Dev nD) (b : Ref sig .tc) (h : ∀ w, Pipeline.arrRef spec0 w ≠ b) (h5 : b ≠ main_v5) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h5)),
    Pipeline.withArrays_of_ne _ c (V0 m c) _ b h]
  exact hV

/-- What a final state holds at such a buffer. -/
theorem final_kept {r : PUnit × MemSt nD τ sig (Elt F)} (hr : Final m r) (c : Dev nD) (b : Ref sig .tc) (hb : b ∈ Pipeline.restRefs sig spec0)
    (h : ∀ w, Pipeline.arrRef spec0 w ≠ b) (h5 : b ≠ main_v5) (hV : V m c b = m ((c : Thread nD τ).loc b)) :
    r.2.mem ((c.tc : Thread nD τ).loc b) = m ((c.tc : Thread nD τ).loc b) :=
  ((hr.1 c).2 b hb).trans (kept m c b h h5 hV)

/-- The argument arrays end as launched. -/
theorem final_args {r : PUnit × MemSt nD τ sig (Elt F)} (hr : Final m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨final_kept m hr c main_arg0 (Pipeline.mem_restRefs_of main_arg0 (by decide) (by decide)) (by decide) (by decide) (V_main_arg0 m c),
    final_kept m hr c main_arg1 (Pipeline.mem_restRefs_of main_arg1 (by decide) (by decide)) (by decide) (by decide) (V_main_arg1 m c),
    final_kept m hr c main_arg2 (Pipeline.mem_restRefs_of main_arg2 (by decide) (by decide)) (by decide) (by decide) (V_main_arg2 m c),
    final_kept m hr c main_arg3 (Pipeline.mem_restRefs_of main_arg3 (by decide) (by decide)) (by decide) (by decide) (V_main_arg3 m c),
    final_kept m hr c main_arg4 (Pipeline.mem_restRefs_of main_arg4 (by decide) (by decide)) (by decide) (by decide) (V_main_arg4 m c),
    final_kept m hr c main_arg5 (Pipeline.mem_restRefs_of main_arg5 (by decide) (by decide)) (by decide) (by decide) (V_main_arg5 m c),
    final_kept m hr c main_arg6 (Pipeline.mem_restRefs_of main_arg6 (by decide) (by decide)) (by decide) (by decide) (V_main_arg6 m c)⟩

end Cert.KernelIdeal.Mlp

end
-- ==== Proof.Value.lean ====
module

public import proofs.«01_k».proof.Proof.Launch
public import proofs.«01_k».proof.Proof.Gen.ReferenceIdeal.Run
public import Idealize.ShloMosaic.Lib.Pointwise
public import Idealize.ShloMosaic.Lib.Pipeline.ValueKit
public import Idealize.ShloMosaic.Lib.Claim

/-!
# What is computed

Over the extended reals, one entry of the result is three nested sums: the two hidden layers with their rectification and the
last layer without. This file gives that formula, and proves that the kernel's result array and the reference's result are it.
-/

@[expose] public section

set_option maxRecDepth 16384

noncomputable section

namespace Cert.KernelIdeal.Mlp

open Cert.KernelIdeal.Gen _root_.Mlp
open Idealize.ShloMosaic Idealize.ShloMosaic.TcCoe Idealize.ShloMosaic.Tactic
open Idealize.SL Idealize.SL.RA Idealize.SL.BI
open Idealize.ShloMosaic.Pipeline (Dat)

section Formula

variable (x : FVec Ideal S1024x128x256 .f32) (w0 : FVec Ideal S128x512x256 .f32) (b0 : FVec Ideal S128x512 .f32)
  (w1 : FVec Ideal S128x512x512 .f32) (b1 : FVec Ideal S128x512 .f32) (w2 : FVec Ideal S128x256x512 .f32) (b2 : FVec Ideal S128x256 .f32)

/-- Unit `p` of the first hidden layer of variable `v`, at sample `n`. -/
def hidden0 (n : Fin 1024) (v : Fin 128) (p : Fin 512) : EReal :=
  max ((∑ k : Fin 256, x (ix3 n v k) * w0 (ix3 v p k)) + b0 (ix2 v p)) 0

/-- Unit `p` of the second hidden layer of variable `v`, at sample `n`. -/
def hidden1 (n : Fin 1024) (v : Fin 128) (p : Fin 512) : EReal :=
  max ((∑ k : Fin 512, hidden0 x w0 b0 n v k * w1 (ix3 v p k)) + b1 (ix2 v p)) 0

/-- Output `o` of variable `v`, at sample `n`. -/
def output (n : Fin 1024) (v : Fin 128) (o : Fin 256) : EReal :=
  (∑ k : Fin 512, hidden1 x w0 b0 w1 b1 n v k * w2 (ix3 v o k)) + b2 (ix2 v o)

/-- The whole result. -/
def result : FVec Ideal S1024x128x256 .f32 := fun j => output x w0 b0 w1 b1 w2 b2 (j 0) (j 1) (j 2)

end Formula

/-- The three layers of one variable, at one sample and one output, over blocks of any kind. -/
theorem layers_apply (x : Vec Ideal S1024x1x1x256 .f32) (w0 : Vec Ideal S1x1x512x256 .f32) (b0 : Vec Ideal S1x1x512 .f32) (w1 : Vec Ideal S1x1x512x512 .f32)
    (b1 : Vec Ideal S1x1x512 .f32) (w2 : Vec Ideal S1x1x256x512 .f32) (b2 : Vec Ideal S1x1x256 .f32) (n : Fin 1024) (o : Fin 256) :
    (layers x w0 b0 w1 b1 w2 b2 (ix4 n 0 0 o) : EReal)
      = (∑ k : Fin 512, max ((∑ p : Fin 512, max ((∑ q : Fin 256, (x (ix4 n 0 0 q) * w0 (ix4 0 0 p q) : EReal)) + b0 (ix3 0 0 p)) 0 * w1 (ix4 0 0 k p))
          + b1 (ix3 0 0 k)) 0 * w2 (ix4 0 0 o k)) + b2 (ix3 0 0 o) := by
  pointwise [layers, k0_pay2, k0_pay3]

variable (m : (ℓ : Loc nD τ sig) → Buf (Elt Ideal) ℓ) (c : Dev nD)

/-- The result of the launch contents of the seven arguments. -/
def wanted : FVec Ideal S1024x128x256 .f32 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The rows as the region finds them: the argument, with an axis of one element. -/
theorem entry_x : V m c main_v0 = (shapeCast S1024x128x1x256 (m ((c : Thread nD τ).loc main_arg0) : FVec Ideal S1024x128x256 .f32) shapeCasts_S1024x128x256_S1024x128x1x256 : FVec Ideal S1024x128x1x256 .f32) := by
  unfold V V0
  simp only [List.flatten_cons, List.flatten_nil, List.append_nil]
  after_results
  rfl

/-- The first biases as the region finds them: the argument, with an axis of one element. -/
theorem entry_b0 : V m c main_v1 = (shapeCast S128x1x512 (m ((c : Thread nD τ).loc main_arg2) : FVec Ideal S128x512 .f32) shapeCasts_S128x512_S128x1x512 : FVec Ideal S128x1x512 .f32) := by
  unfold V V0
  simp only [List.flatten_cons, List.flatten_nil, List.append_nil]
  after_results
  rfl

/-- The second biases as the region finds them: the argument, with an axis of one element. -/
theorem entry_b1 : V m c main_v2 = (shapeCast S128x1x512 (m ((c : Thread nD τ).loc main_arg4) : FVec Ideal S128x512 .f32) shapeCasts_S128x512_S128x1x512 : FVec Ideal S128x1x512 .f32) := by
  unfold V V0
  simp only [List.flatten_cons, List.flatten_nil, List.append_nil]
  after_results
  rfl

/-- The last biases as the region finds them: the argument, with an axis of one element. -/
theorem entry_b2 : V m c main_v3 = (shapeCast S128x1x256 (m ((c : Thread nD τ).loc main_arg6) : FVec Ideal S128x256 .f32) shapeCasts_S128x256_S128x1x256 : FVec Ideal S128x1x256 .f32) := by
  unfold V V0
  simp only [List.flatten_cons, List.flatten_nil, List.append_nil]
  after_results
  rfl

/-- Where the windows' blocks lie. -/
theorem places : ∀ t : Fin cfg0.N, win0_0.index t = ![0, t.val, 0, 0] ∧ win0_1.index t = ![0, 0, 0] ∧ win0_2.index t = ![0, 0, 0]
    ∧ win0_3.index t = ![0, 0, 0] ∧ win0_4.index t = ![0, t.val, 0, 0] ∧ (Ring.bk 32 t.val).val = t.val :=
  (by decide +kernel : ∀ t : Fin grid0.N, _)

set_option maxHeartbeats 1600000 in
/-- What a grid point stores is the wanted result at the place where it is stored. -/
theorem point (t : Fin cfg0.N) (y : S1024x4x1x256.Idx) :
    (blockOut c (iblk m c 0 t) (iblk m c 1 t) (iblk m c 2 t) (iblk m c 3 t) (V m c main_arg1) (V m c main_arg3) (V m c main_arg5) (Ring.bk 32 t.val) y : EReal)
      = (shapeCast S1024x128x1x256 (wanted m c) shapeCasts_S1024x128x256_S1024x128x1x256 : FVec Ideal S1024x128x1x256 .f32) (((cfg0.win 4).blk t).view.emb y) := by
  unfold blockOut laneOut
  refine (layers_apply _ _ _ _ _ _ _ _ _).trans ?_
  pointwise [wanted, result, output, hidden1, hidden0, var]
  blk_point [iblk, places t]
  · rw [entry_x]; pointwise; blk_ext [places t]
  · rw [entry_b0]; pointwise; blk_ext [places t]
  · rw [entry_b1]; pointwise; blk_ext [places t]
  · rw [entry_b2]; pointwise; blk_ext [places t]

/-- The array the region writes, after the run. -/
theorem array : (dats m 0 c).arrAt 4 (cfgs 0).N
    = (shapeCast S1024x128x1x256 (wanted m c) shapeCasts_S1024x128x256_S1024x128x1x256 : FVec Ideal S1024x128x1x256 .f32) := by
  refine (dats m 0 c).arrAt_eq_of_covers 4 _ (by decide +kernel) fun t hf y => ?_
  blk_simp
  rw [after_4]
  exact point m c t y

/-- What the last host line leaves in the result. -/
theorem last_line : Pipeline.afterTail₀ cfgs (dats m) 0 (V0 m) [hostOps1] c main_v5 = wanted m c := by
  unfold Pipeline.afterTail₀
  simp only [List.flatten_cons, List.flatten_nil, List.append_nil]
  after_results
  rw [show Pipeline.withArrays (cfgs 0).spec c (V0 m c) (fun w => (dats m 0 c).arrAt w (cfgs 0).N) (Proc.tc.devRef main_v4) = (dats m 0 c).arrAt 4 (cfgs 0).N from
      Pipeline.withArrays_arr spec0 (by decide) c (V0 m c) (fun w => (dats m 0 c).arrAt w (cfgs 0).N) 4, array]
  funext j
  idx_vars j
  show shapeCast S1024x128x256 (shapeCast S1024x128x1x256 (wanted m c) shapeCasts_S1024x128x256_S1024x128x1x256 : FVec Ideal S1024x128x1x256 .f32) shapeCasts_S1024x128x1x256_S1024x128x256 _ = _
  pointwise

/-- The result after the run. -/
theorem final_result {r : PUnit × MemSt nD τ sig (Elt Ideal)} (hr : Final m r) (c : Dev nD) : r.2.mem ((c.tc : Thread nD τ).loc main_v5) = wanted m c :=
  ((hr.1 c).2 main_v5 (Pipeline.mem_restRefs_of main_v5 (by decide) (by decide))).trans (last_line m c)

/-- The factors of a sum of products, exchanged. -/
theorem swap {n : Nat} (f g : Fin n → EReal) : ∑ k, f k * g k = ∑ k, g k * f k := Finset.sum_congr rfl fun _ _ => mul_comm _ _

/-- The reference ends with its result array at the formula of its arguments, and its arguments as launched. -/
theorem reference_result
    (m' : (ℓ : Loc Cert.ReferenceIdeal.nD Cert.ReferenceIdeal.τ Cert.ReferenceIdeal.sig) → Buf (Elt Ideal) ℓ) (g' : Dev Cert.ReferenceIdeal.nD → PrngReg) :
    θ_run Cert.ReferenceIdeal.defs (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v16) = result (m' ((c.tc : Thread Cert.ReferenceIdeal.nD Cert.ReferenceIdeal.τ).loc Cert.ReferenceIdeal.main_arg0))
       (m' ((c.tc : Thread Cert.ReferenceIdeal.nD Cert.ReferenceIdeal.τ).loc Cert.ReferenceIdeal.main_arg1))
       (m' ((c.tc : Thread Cert.ReferenceIdeal.nD Cert.ReferenceIdeal.τ).loc Cert.ReferenceIdeal.main_arg2))
       (m' ((c.tc : Thread Cert.ReferenceIdeal.nD Cert.ReferenceIdeal.τ).loc Cert.ReferenceIdeal.main_arg3))
       (m' ((c.tc : Thread Cert.ReferenceIdeal.nD Cert.ReferenceIdeal.τ).loc Cert.ReferenceIdeal.main_arg4))
       (m' ((c.tc : Thread Cert.ReferenceIdeal.nD Cert.ReferenceIdeal.τ).loc Cert.ReferenceIdeal.main_arg5))
       (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) := by
  refine (θ_run _ _ _).mono (fun r h c => ⟨(h c).1.trans ?_, (h c).2⟩) (Cert.ReferenceIdeal.Value.run m' g')
  funext j
  idx_vars j
  pointwise [result, output, hidden1, hidden0]
  refine congrArg₂ (· + ·) ((swap _ _).trans (Finset.sum_congr rfl fun k _ => congrArg (· * _) ?_)) rfl
  refine congrArg (max · 0) (congrArg₂ (· + ·) ((swap _ _).trans (Finset.sum_congr rfl fun p _ => congrArg (· * _) ?_)) rfl)
  exact congrArg (max · 0) (congrArg₂ (· + ·) (swap _ _) rfl)

end Cert.KernelIdeal.Mlp

end
-- ==== Proof.lean ====
/- The five claims, assembled. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value

/-!
# The claims

The kernel and its idealization run to the end, give back their arguments and leave every semaphore at zero; so does the
reference; and over the extended reals the kernel's result is the reference's.
-/

@[expose] public section

noncomputable section

namespace Cert.Proof

open Idealize.ShloMosaic Idealize.SL.Sem
open Cert.KernelIdeal.Mlp

/-- The idealized kernel, at any float instance: it ends, its arguments are as launched, its semaphores at zero. -/
theorem quiescent {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run _ _ _).mono (fun _ h => ⟨fun c => final_args m h c, h.2⟩) (runs m g)

/-- The kernel's own claim, which is the statement above at the machine's floats. -/
theorem kernel_quiescent : Cert.quiescent_Kernel (hKernel := Cert.Kernel.Gen.facts) := by
  intro m g _
  rw [Cert.Same.main_eq, Cert.Same.defs_eq]
  exact quiescent m g

/-- The reference's claim. -/
theorem reference_quiescent : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (reference_result m g)

/-- The kernel's result and the reference's, over the extended reals. -/
theorem same_result : Cert.algebraic_KernelIdeal_ReferenceIdeal (hKernelIdeal := Cert.KernelIdeal.Gen.facts) (hReferenceIdeal := Cert.ReferenceIdeal.Gen.facts) := by
  intro m g m' g' _ agree
  refine ⟨wanted m, (θ_run _ _ _).mono (fun _ h c => ⟨final_result m h c, final_args m h c⟩) (runs m g),
    (θ_run _ _ _).mono (fun _ h c => ⟨(h c).1.trans ?_, (h c).2⟩) (reference_result m' g')⟩
  obtain ⟨e0, e1, e2, e3, e4, e5, e6⟩ := agree c
  unfold wanted
  rw [e0, e1, e2, e3, e4, e5, e6]

/-- The five claims. -/
theorem claim : Cert.Claim :=
  ⟨Cert.Kernel.Gen.facts, Cert.KernelIdeal.Gen.facts, Cert.ReferenceIdeal.Gen.facts,
    kernel_quiescent, fun m g _ => quiescent m g, reference_quiescent, trivial, same_result⟩

end Cert.Proof

end
